-- ==== Defs.lean ====
def Pre_Kernel [hPre_is_swap_Kernel : Cert.Pre_is_swap_Kernel.Facts] (m : (ℓ : Loc Cert.Kernel.nD Cert.Kernel.τ Cert.Kernel.sig) → Buf (Elt Bits) ℓ) : Prop :=
  ∀ c : Dev Cert.Kernel.nD,
    (Cert.Pre_is_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_identity_Kernel [hPre_is_identity_Kernel : Cert.Pre_is_identity_Kernel.Facts] (m : (ℓ : Loc Cert.Kernel.nD Cert.Kernel.τ Cert.Kernel.sig) → Buf (Elt Bits) ℓ) : Prop :=
  ∀ c : Dev Cert.Kernel.nD,
    (Cert.Pre_is_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_is_swap_Kernel : Cert.Pre_is_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_identity_Kernel [hPre_is_identity_Kernel : Cert.Pre_is_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_swap_ReferenceIdeal [hPre_is_swap_ReferenceIdeal : Cert.Pre_is_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_identity_ReferenceIdeal [hPre_is_identity_ReferenceIdeal : Cert.Pre_is_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_is_swap_Kernel : Cert.Pre_is_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_identity_Kernel [hKernel : Cert.Kernel.Facts] [hPre_is_identity_Kernel : Cert.Pre_is_identity_Kernel.Facts] : Prop :=
  ∀ (m : (ℓ : Loc Cert.Kernel.nD Cert.Kernel.τ Cert.Kernel.sig) → Buf (Elt Bits) ℓ) (g : Dev Cert.Kernel.nD → PrngReg), Pre_Kernel_is_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_identity_Kernel [hKernelIdeal : Cert.KernelIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_swap_ReferenceIdeal [hReferenceIdeal : Cert.ReferenceIdeal.Facts] [hPre_is_swap_ReferenceIdeal : Cert.Pre_is_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_identity_ReferenceIdeal [hReferenceIdeal : Cert.ReferenceIdeal.Facts] [hPre_is_identity_ReferenceIdeal : Cert.Pre_is_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_identity_Kernel [hKernelIdeal : Cert.KernelIdeal.Facts] [hReferenceIdeal : Cert.ReferenceIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_identity_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_swap_Kernel : Cert.Pre_is_swap_Kernel.Facts) (hPre_is_identity_Kernel : Cert.Pre_is_identity_Kernel.Facts) (hPre_is_swap_ReferenceIdeal : Cert.Pre_is_swap_ReferenceIdeal.Facts) (hPre_is_identity_ReferenceIdeal : Cert.Pre_is_identity_ReferenceIdeal.Facts),
    quiescent_Kernel (hKernel := hKernel) (hPre_is_swap_Kernel := hPre_is_swap_Kernel)
    ∧ quiescent_Kernel_pre_is_identity_Kernel (hKernel := hKernel) (hPre_is_identity_Kernel := hPre_is_identity_Kernel)
    ∧ quiescent_KernelIdeal (hKernelIdeal := hKernelIdeal) (hPre_is_swap_Kernel := hPre_is_swap_Kernel)
    ∧ quiescent_KernelIdeal_pre_is_identity_Kernel (hKernelIdeal := hKernelIdeal) (hPre_is_identity_Kernel := hPre_is_identity_Kernel)
    ∧ quiescent_ReferenceIdeal (hReferenceIdeal := hReferenceIdeal)
    ∧ quiescent_ReferenceIdeal_pre_is_swap_ReferenceIdeal (hReferenceIdeal := hReferenceIdeal) (hPre_is_swap_ReferenceIdeal := hPre_is_swap_ReferenceIdeal)
    ∧ quiescent_ReferenceIdeal_pre_is_identity_ReferenceIdeal (hReferenceIdeal := hReferenceIdeal) (hPre_is_identity_ReferenceIdeal := hPre_is_identity_ReferenceIdeal)
    ∧ preserves_Kernel_KernelIdeal
    ∧ algebraic_KernelIdeal_ReferenceIdeal (hKernelIdeal := hKernelIdeal) (hReferenceIdeal := hReferenceIdeal) (hPre_is_swap_Kernel := hPre_is_swap_Kernel)
    ∧ algebraic_KernelIdeal_ReferenceIdeal_pre_is_identity_Kernel (hKernelIdeal := hKernelIdeal) (hReferenceIdeal := hReferenceIdeal) (hPre_is_identity_Kernel := hPre_is_identity_Kernel)
-- ==== Pre_is_identity_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_identity_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_swap_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_is_swap_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S8x64x1024 : Shape := ⟨3, ![8, 64, 1024]⟩
abbrev S160x1024 : Shape := ⟨2, ![160, 1024]⟩
abbrev S3x8 : Shape := ⟨2, ![3, 8]⟩
abbrev S3 : Shape := ⟨1, ![3]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x1 : Shape := ⟨2, ![1, 1]⟩
abbrev S1x160x1024 : Shape := ⟨3, ![1, 160, 1024]⟩
abbrev S1x176x1024 : Shape := ⟨3, ![1, 176, 1024]⟩
abbrev S176x1024 : Shape := ⟨2, ![176, 1024]⟩

abbrev nBuf : Space → Nat
  | .hbm => 3
  | .vmem => 4
  | .smem => 1
  | _ => 0

abbrev bufTy : (tb : Table) → Fin (tcTables nBuf tb) → BufTy
  | .hbm, ⟨0, _⟩ => ⟨S1x2048x1024, .bf16⟩
  | .hbm, ⟨1, _⟩ => ⟨S2, .i32⟩
  | .hbm, ⟨2, _⟩ => ⟨S1x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S8x64x1024, .bf16⟩
  | .local _ .vmem, ⟨3, _⟩ => ⟨S160x1024, .bf16⟩
  | .local _ .smem, ⟨0, _⟩ => ⟨S2, .i32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 2 → Bool
  | ⟨0, _⟩ => false
  | ⟨1, _⟩ => true
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 2 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_19 : BitVec 32 := 0#32
  let c4_i32_18 : BitVec 32 := 4#32
  let v36 : BitVec 32 := Scalar.muli v10 c4_i32_18
  let v37 : BitVec 32 := Scalar.addi c0_i32_19 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v38 : BitVec 32 := Scalar.muli v5 c2_i32_20
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v40 : BitVec 32 := Scalar.muli v8 c1_i32_21
  let v41 : BitVec 32 := Scalar.addi v39 v40
  v41.toNat
def k0_cond1 (d0 : Dev nD) (v10 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 1 := Scalar.cmpi .ne v10 v2
  let v30 : BitVec 32 := Scalar.extui v11
  let c0_i32 : BitVec 32 := 0#32
  let v31 : BitVec 1 := Scalar.cmpi .ne v30 c0_i32
  v31

def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v42 : BitVec 32 := Scalar.muli v2 c4_i32_23
  let v43 : BitVec 32 := Scalar.addi c0_i32_24 v42
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_25 : BitVec 32 := 2#32
  let v44 : BitVec 32 := Scalar.muli v28 c2_i32_25
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v46 : BitVec 32 := Scalar.muli v8 c1_i32_26
  let v47 : BitVec 32 := Scalar.addi v45 v46
  v47.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v48 : BitVec 32 := Scalar.muli v2 c4_i32_28
  let v49 : BitVec 32 := Scalar.addi c0_i32_29 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v50 : BitVec 32 := Scalar.muli v5 c2_i32_30
  let v51 : BitVec 32 := Scalar.addi v49 v50
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_31 : BitVec 32 := 1#32
  let v52 : BitVec 32 := Scalar.muli v29 c1_i32_31
  let v53 : BitVec 32 := Scalar.addi v51 v52
  v53.toNat
def k0_off2 (d0 : Dev nD) (c0_i32_69 : BitVec 32) : Fin 3 → Nat :=
  let c0 : Index := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v98 : BitVec 32 := Scalar.addi v14 c0_i32_69
  let v99 : Index := Scalar.indexCast v98
  let c0_70 : Index := 0#32
  ![0, v99.toNat, 0]
def k0_off3 (d0 : Dev nD) (c0_i32_33 : BitVec 32) : Fin 3 → Nat :=
  let c0_i32_75 : BitVec 32 := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v54 : BitVec 32 := Scalar.addi v14 c0_i32_33
  let c0_i32_84 : BitVec 32 := 0#32
  ![0, v54.toNat, 0]
def k0_dev4 (d0 : Dev nD) (v10 : BitVec 32) : Nat :=
  let c0_i32_81 : BitVec 32 := 0#32
  let c4_i32_80 : BitVec 32 := 4#32
  let v105 : BitVec 32 := Scalar.muli v10 c4_i32_80
  let v106 : BitVec 32 := Scalar.addi c0_i32_81 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v107 : BitVec 32 := Scalar.muli v5 c2_i32_82
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v109 : BitVec 32 := Scalar.muli v8 c1_i32_83
  let v110 : BitVec 32 := Scalar.addi v108 v109
  v110.toNat
def k0_dev5 (d0 : Dev nD) (v10 : BitVec 32) : Nat :=
  let c0_i32_99 : BitVec 32 := 0#32
  let c4_i32_98 : BitVec 32 := 4#32
  let v126 : BitVec 32 := Scalar.muli v10 c4_i32_98
  let v127 : BitVec 32 := Scalar.addi c0_i32_99 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v128 : BitVec 32 := Scalar.muli v5 c2_i32_100
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v130 : BitVec 32 := Scalar.muli v8 c1_i32_101
  let v131 : BitVec 32 := Scalar.addi v129 v130
  v131.toNat
def k0_dev6 (d0 : Dev nD) (v10 : BitVec 32) : Nat :=
  let c0_i32_117 : BitVec 32 := 0#32
  let c4_i32_116 : BitVec 32 := 4#32
  let v147 : BitVec 32 := Scalar.muli v10 c4_i32_116
  let v148 : BitVec 32 := Scalar.addi c0_i32_117 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v149 : BitVec 32 := Scalar.muli v5 c2_i32_118
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v151 : BitVec 32 := Scalar.muli v8 c1_i32_119
  let v152 : BitVec 32 := Scalar.addi v150 v151
  v152.toNat
def k0_dev7 (d0 : Dev nD) (v10 : BitVec 32) : Nat :=
  let c0_i32_135 : BitVec 32 := 0#32
  let c4_i32_134 : BitVec 32 := 4#32
  let v168 : BitVec 32 := Scalar.muli v10 c4_i32_134
  let v169 : BitVec 32 := Scalar.addi c0_i32_135 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_136 : BitVec 32 := 2#32
  let v170 : BitVec 32 := Scalar.muli v5 c2_i32_136
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v172 : BitVec 32 := Scalar.muli v8 c1_i32_137
  let v173 : BitVec 32 := Scalar.addi v171 v172
  v173.toNat
def k0_dev8 (d0 : Dev nD) (v10 : BitVec 32) : Nat :=
  let c0_i32_153 : BitVec 32 := 0#32
  let c4_i32_152 : BitVec 32 := 4#32
  let v189 : BitVec 32 := Scalar.muli v10 c4_i32_152
  let v190 : BitVec 32 := Scalar.addi c0_i32_153 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_154 : BitVec 32 := 2#32
  let v191 : BitVec 32 := Scalar.muli v5 c2_i32_154
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v193 : BitVec 32 := Scalar.muli v8 c1_i32_155
  let v194 : BitVec 32 := Scalar.addi v192 v193
  v194.toNat
def k0_dev9 (d0 : Dev nD) (v10 : BitVec 32) : Nat :=
  let c0_i32_170 : BitVec 32 := 0#32
  let c4_i32_169 : BitVec 32 := 4#32
  let v210 : BitVec 32 := Scalar.muli v10 c4_i32_169
  let v211 : BitVec 32 := Scalar.addi c0_i32_170 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v212 : BitVec 32 := Scalar.muli v5 c2_i32_171
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v214 : BitVec 32 := Scalar.muli v8 c1_i32_172
  let v215 : BitVec 32 := Scalar.addi v213 v214
  v215.toNat
def k0_dev10 (d0 : Dev nD) (v10 : BitVec 32) : Nat :=
  let c0_i32_187 : BitVec 32 := 0#32
  let c4_i32_186 : BitVec 32 := 4#32
  let v231 : BitVec 32 := Scalar.muli v10 c4_i32_186
  let v232 : BitVec 32 := Scalar.addi c0_i32_187 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_188 : BitVec 32 := 2#32
  let v233 : BitVec 32 := Scalar.muli v5 c2_i32_188
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v235 : BitVec 32 := Scalar.muli v8 c1_i32_189
  let v236 : BitVec 32 := Scalar.addi v234 v235
  v236.toNat
def k0_dev11 (d0 : Dev nD) (v10 : BitVec 32) : Nat :=
  let c0_i32_204 : BitVec 32 := 0#32
  let c4_i32_203 : BitVec 32 := 4#32
  let v252 : BitVec 32 := Scalar.muli v10 c4_i32_203
  let v253 : BitVec 32 := Scalar.addi c0_i32_204 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v254 : BitVec 32 := Scalar.muli v5 c2_i32_205
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v256 : BitVec 32 := Scalar.muli v8 c1_i32_206
  let v257 : BitVec 32 := Scalar.addi v255 v256
  v257.toNat
def k0_off4 (d0 : Dev nD) : Fin 3 → Nat :=
  let c0_212 : Index := 0#32
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_10 v5
  let v24 : BitVec 32 := Scalar.muli c2_i32_11 v23
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_12 v8
  let v26 : BitVec 32 := Scalar.addi v24 v25
  let c512_i32_13 : BitVec 32 := 512#32
  let v27 : BitVec 32 := Scalar.muli v26 c512_i32_13
  let c176_i32_210 : BitVec 32 := 176#32
  let v266 : BitVec 32 := Scalar.addi v27 c176_i32_210
  let c176_i32_211 : BitVec 32 := 176#32
  let v267 : BitVec 32 := Scalar.addi v266 c176_i32_211
  let v268 : Index := Scalar.indexCast v267
  let c0_213 : Index := 0#32
  ![0, v268.toNat, 0]
def k0_off5 (d0 : Dev nD) : Fin 3 → Nat :=
  let c0_i32_216 : BitVec 32 := 0#32
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_10 v5
  let v24 : BitVec 32 := Scalar.muli c2_i32_11 v23
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_12 v8
  let v26 : BitVec 32 := Scalar.addi v24 v25
  let c512_i32_13 : BitVec 32 := 512#32
  let v27 : BitVec 32 := Scalar.muli v26 c512_i32_13
  let c176_i32 : BitVec 32 := 176#32
  let v94 : BitVec 32 := Scalar.addi v27 c176_i32
  let c176_i32_66 : BitVec 32 := 176#32
  let v95 : BitVec 32 := Scalar.addi v94 c176_i32_66
  let c0_i32_223 : BitVec 32 := 0#32
  ![0, v95.toNat, 0]
def k0_dev12 (d0 : Dev nD) (v10 : BitVec 32) : Nat :=
  let c0_i32_220 : BitVec 32 := 0#32
  let c4_i32_219 : BitVec 32 := 4#32
  let v274 : BitVec 32 := Scalar.muli v10 c4_i32_219
  let v275 : BitVec 32 := Scalar.addi c0_i32_220 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v276 : BitVec 32 := Scalar.muli v5 c2_i32_221
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v278 : BitVec 32 := Scalar.muli v8 c1_i32_222
  let v279 : BitVec 32 := Scalar.addi v277 v278
  v279.toNat
def k0_dev13 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v298 : BitVec 32 := Scalar.muli v2 c4_i32_243
  let v299 : BitVec 32 := Scalar.addi c0_i32_244 v298
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_245 : BitVec 32 := 2#32
  let v300 : BitVec 32 := Scalar.muli v28 c2_i32_245
  let v301 : BitVec 32 := Scalar.addi v299 v300
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v302 : BitVec 32 := Scalar.muli v8 c1_i32_246
  let v303 : BitVec 32 := Scalar.addi v301 v302
  v303.toNat
def k0_dev14 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v312 : BitVec 32 := Scalar.muli v2 c4_i32_255
  let v313 : BitVec 32 := Scalar.addi c0_i32_256 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v314 : BitVec 32 := Scalar.muli v5 c2_i32_257
  let v315 : BitVec 32 := Scalar.addi v313 v314
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_258 : BitVec 32 := 1#32
  let v316 : BitVec 32 := Scalar.muli v29 c1_i32_258
  let v317 : BitVec 32 := Scalar.addi v315 v316
  v317.toNat
def k0_dev15 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v338 : BitVec 32 := Scalar.muli v2 c4_i32_280
  let v339 : BitVec 32 := Scalar.addi c0_i32_281 v338
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_282 : BitVec 32 := 2#32
  let v340 : BitVec 32 := Scalar.muli v28 c2_i32_282
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v342 : BitVec 32 := Scalar.muli v8 c1_i32_283
  let v343 : BitVec 32 := Scalar.addi v341 v342
  v343.toNat
def k0_dev16 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v352 : BitVec 32 := Scalar.muli v2 c4_i32_292
  let v353 : BitVec 32 := Scalar.addi c0_i32_293 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v354 : BitVec 32 := Scalar.muli v5 c2_i32_294
  let v355 : BitVec 32 := Scalar.addi v353 v354
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_295 : BitVec 32 := 1#32
  let v356 : BitVec 32 := Scalar.muli v29 c1_i32_295
  let v357 : BitVec 32 := Scalar.addi v355 v356
  v357.toNat
def k0_dev17 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_317 : BitVec 32 := 4#32
  let v378 : BitVec 32 := Scalar.muli v2 c4_i32_317
  let v379 : BitVec 32 := Scalar.addi c0_i32_318 v378
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_319 : BitVec 32 := 2#32
  let v380 : BitVec 32 := Scalar.muli v28 c2_i32_319
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v382 : BitVec 32 := Scalar.muli v8 c1_i32_320
  let v383 : BitVec 32 := Scalar.addi v381 v382
  v383.toNat
def k0_dev18 (d0 : Dev nD) : Nat :=
  let c0_i32_330 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_329 : BitVec 32 := 4#32
  let v392 : BitVec 32 := Scalar.muli v2 c4_i32_329
  let v393 : BitVec 32 := Scalar.addi c0_i32_330 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_331 : BitVec 32 := 2#32
  let v394 : BitVec 32 := Scalar.muli v5 c2_i32_331
  let v395 : BitVec 32 := Scalar.addi v393 v394
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_332 : BitVec 32 := 1#32
  let v396 : BitVec 32 := Scalar.muli v29 c1_i32_332
  let v397 : BitVec 32 := Scalar.addi v395 v396
  v397.toNat
def k0_dev19 (d0 : Dev nD) : Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_354 : BitVec 32 := 4#32
  let v418 : BitVec 32 := Scalar.muli v2 c4_i32_354
  let v419 : BitVec 32 := Scalar.addi c0_i32_355 v418
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_356 : BitVec 32 := 2#32
  let v420 : BitVec 32 := Scalar.muli v28 c2_i32_356
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v422 : BitVec 32 := Scalar.muli v8 c1_i32_357
  let v423 : BitVec 32 := Scalar.addi v421 v422
  v423.toNat
def k0_dev20 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v432 : BitVec 32 := Scalar.muli v2 c4_i32_366
  let v433 : BitVec 32 := Scalar.addi c0_i32_367 v432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v434 : BitVec 32 := Scalar.muli v5 c2_i32_368
  let v435 : BitVec 32 := Scalar.addi v433 v434
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_369 : BitVec 32 := 1#32
  let v436 : BitVec 32 := Scalar.muli v29 c1_i32_369
  let v437 : BitVec 32 := Scalar.addi v435 v436
  v437.toNat
def k0_dev21 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v458 : BitVec 32 := Scalar.muli v2 c4_i32_391
  let v459 : BitVec 32 := Scalar.addi c0_i32_392 v458
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_393 : BitVec 32 := 2#32
  let v460 : BitVec 32 := Scalar.muli v28 c2_i32_393
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_394 : BitVec 32 := 1#32
  let v462 : BitVec 32 := Scalar.muli v8 c1_i32_394
  let v463 : BitVec 32 := Scalar.addi v461 v462
  v463.toNat
def k0_dev22 (d0 : Dev nD) : Nat :=
  let c0_i32_404 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_403 : BitVec 32 := 4#32
  let v472 : BitVec 32 := Scalar.muli v2 c4_i32_403
  let v473 : BitVec 32 := Scalar.addi c0_i32_404 v472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v474 : BitVec 32 := Scalar.muli v5 c2_i32_405
  let v475 : BitVec 32 := Scalar.addi v473 v474
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_406 : BitVec 32 := 1#32
  let v476 : BitVec 32 := Scalar.muli v29 c1_i32_406
  let v477 : BitVec 32 := Scalar.addi v475 v476
  v477.toNat
def k0_dev23 (d0 : Dev nD) : Nat :=
  let c0_i32_429 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_428 : BitVec 32 := 4#32
  let v498 : BitVec 32 := Scalar.muli v2 c4_i32_428
  let v499 : BitVec 32 := Scalar.addi c0_i32_429 v498
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_430 : BitVec 32 := 2#32
  let v500 : BitVec 32 := Scalar.muli v28 c2_i32_430
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_431 : BitVec 32 := 1#32
  let v502 : BitVec 32 := Scalar.muli v8 c1_i32_431
  let v503 : BitVec 32 := Scalar.addi v501 v502
  v503.toNat
def k0_dev24 (d0 : Dev nD) : Nat :=
  let c0_i32_441 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_440 : BitVec 32 := 4#32
  let v512 : BitVec 32 := Scalar.muli v2 c4_i32_440
  let v513 : BitVec 32 := Scalar.addi c0_i32_441 v512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_442 : BitVec 32 := 2#32
  let v514 : BitVec 32 := Scalar.muli v5 c2_i32_442
  let v515 : BitVec 32 := Scalar.addi v513 v514
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_443 : BitVec 32 := 1#32
  let v516 : BitVec 32 := Scalar.muli v29 c1_i32_443
  let v517 : BitVec 32 := Scalar.addi v515 v516
  v517.toNat
def k0_dev25 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v538 : BitVec 32 := Scalar.muli v2 c4_i32_465
  let v539 : BitVec 32 := Scalar.addi c0_i32_466 v538
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_467 : BitVec 32 := 2#32
  let v540 : BitVec 32 := Scalar.muli v28 c2_i32_467
  let v541 : BitVec 32 := Scalar.addi v539 v540
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v542 : BitVec 32 := Scalar.muli v8 c1_i32_468
  let v543 : BitVec 32 := Scalar.addi v541 v542
  v543.toNat
def k0_dev26 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v552 : BitVec 32 := Scalar.muli v2 c4_i32_477
  let v553 : BitVec 32 := Scalar.addi c0_i32_478 v552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v554 : BitVec 32 := Scalar.muli v5 c2_i32_479
  let v555 : BitVec 32 := Scalar.addi v553 v554
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_480 : BitVec 32 := 1#32
  let v556 : BitVec 32 := Scalar.muli v29 c1_i32_480
  let v557 : BitVec 32 := Scalar.addi v555 v556
  v557.toNat
def k0_dev27 (d0 : Dev nD) : Nat :=
  let c0_i32_503 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_502 : BitVec 32 := 4#32
  let v578 : BitVec 32 := Scalar.muli v2 c4_i32_502
  let v579 : BitVec 32 := Scalar.addi c0_i32_503 v578
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_504 : BitVec 32 := 2#32
  let v580 : BitVec 32 := Scalar.muli v28 c2_i32_504
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_505 : BitVec 32 := 1#32
  let v582 : BitVec 32 := Scalar.muli v8 c1_i32_505
  let v583 : BitVec 32 := Scalar.addi v581 v582
  v583.toNat
def k0_dev28 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v592 : BitVec 32 := Scalar.muli v2 c4_i32_514
  let v593 : BitVec 32 := Scalar.addi c0_i32_515 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v594 : BitVec 32 := Scalar.muli v5 c2_i32_516
  let v595 : BitVec 32 := Scalar.addi v593 v594
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_517 : BitVec 32 := 1#32
  let v596 : BitVec 32 := Scalar.muli v29 c1_i32_517
  let v597 : BitVec 32 := Scalar.addi v595 v596
  v597.toNat
def k0_off6 (d0 : Dev nD) : Fin 3 → Nat :=
  let c0_i32_557 : BitVec 32 := 0#32
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let v21 : BitVec 32 := Scalar.addi v19 v20
  let c512_i32_9 : BitVec 32 := 512#32
  let v22 : BitVec 32 := Scalar.muli v21 c512_i32_9
  let c0_i32_564 : BitVec 32 := 0#32
  ![0, v22.toNat, 0]
def k0_dev29 (d0 : Dev nD) : Nat :=
  let c0_i32_561 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_560 : BitVec 32 := 4#32
  let v642 : BitVec 32 := Scalar.muli v2 c4_i32_560
  let v643 : BitVec 32 := Scalar.addi c0_i32_561 v642
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_562 : BitVec 32 := 2#32
  let v644 : BitVec 32 := Scalar.muli v28 c2_i32_562
  let v645 : BitVec 32 := Scalar.addi v643 v644
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_563 : BitVec 32 := 1#32
  let v646 : BitVec 32 := Scalar.muli v8 c1_i32_563
  let v647 : BitVec 32 := Scalar.addi v645 v646
  v647.toNat
def k0_off7 (d0 : Dev nD) : Fin 3 → Nat :=
  let c0_i32_639 : BitVec 32 := 0#32
  let c2_i32_5 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_4 v5
  let v16 : BitVec 32 := Scalar.muli c2_i32_5 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c512_i32_6 : BitVec 32 := 512#32
  let v18 : BitVec 32 := Scalar.muli v17 c512_i32_6
  let c176_i32_68 : BitVec 32 := 176#32
  let v97 : BitVec 32 := Scalar.addi v18 c176_i32_68
  let c0_i32_646 : BitVec 32 := 0#32
  ![0, v97.toNat, 0]
def k0_dev30 (d0 : Dev nD) : Nat :=
  let c0_i32_643 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_642 : BitVec 32 := 4#32
  let v728 : BitVec 32 := Scalar.muli v2 c4_i32_642
  let v729 : BitVec 32 := Scalar.addi c0_i32_643 v728
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_644 : BitVec 32 := 2#32
  let v730 : BitVec 32 := Scalar.muli v5 c2_i32_644
  let v731 : BitVec 32 := Scalar.addi v729 v730
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_645 : BitVec 32 := 1#32
  let v732 : BitVec 32 := Scalar.muli v29 c1_i32_645
  let v733 : BitVec 32 := Scalar.addi v731 v732
  v733.toNat
def k0_dev31 (d0 : Dev nD) (v10 : BitVec 32) : Nat :=
  let c0_i32_1005_r0 : BitVec 32 := 0#32
  let c4_i32_1004_r0 : BitVec 32 := 4#32
  let v1021_r0 : BitVec 32 := Scalar.muli v10 c4_i32_1004_r0
  let v1022_r0 : BitVec 32 := Scalar.addi c0_i32_1005_r0 v1021_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1006_r0 : BitVec 32 := 2#32
  let v1023_r0 : BitVec 32 := Scalar.muli v5 c2_i32_1006_r0
  let v1024_r0 : BitVec 32 := Scalar.addi v1022_r0 v1023_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1007_r0 : BitVec 32 := 1#32
  let v1025_r0 : BitVec 32 := Scalar.muli v8 c1_i32_1007_r0
  let v1026_r0 : BitVec 32 := Scalar.addi v1024_r0 v1025_r0
  v1026_r0.toNat

def k0_chk1 (d0 : Dev nD) (v10 : BitVec 32) : Prop :=
  (∀ (k0_h1 : k0_cond1 d0 v10 = 1#1), (k0_dev1 d0 v10) < nD) ∧
  (∀ (k0_h1 : k0_cond1 d0 v10 = 1#1), (k0_dev4 d0 v10) < nD) ∧
  (∀ (k0_h1 : k0_cond1 d0 v10 = 1#1), (k0_dev5 d0 v10) < nD) ∧
  (∀ (k0_h1 : k0_cond1 d0 v10 = 1#1), (k0_dev6 d0 v10) < nD) ∧
  (∀ (k0_h1 : k0_cond1 d0 v10 = 1#1), (k0_dev7 d0 v10) < nD) ∧
  (∀ (k0_h1 : k0_cond1 d0 v10 = 1#1), (k0_dev8 d0 v10) < nD) ∧
  (∀ (k0_h1 : k0_cond1 d0 v10 = 1#1), (k0_dev9 d0 v10) < nD) ∧
  (∀ (k0_h1 : k0_cond1 d0 v10 = 1#1), (k0_dev10 d0 v10) < nD) ∧
  (∀ (k0_h1 : k0_cond1 d0 v10 = 1#1), (k0_dev11 d0 v10) < nD) ∧
  (∀ (k0_h1 : k0_cond1 d0 v10 = 1#1), (k0_dev12 d0 v10) < nD) ∧
  (∀ (k0_h1 : k0_cond1 d0 v10 = 1#1), (k0_dev31 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev4_lt : ∀ (d0 : Dev nD) (v10 : BitVec 32) (k0_hw1 : k0_chk1 d0 v10), ∀ (k0_h1 : k0_cond1 d0 v10 = 1#1), (k0_dev4 d0 v10) < nD := fun d0 v10 k0_hw1 k0_h1 => k0_hw1.2.1 k0_h1
theorem k0_dev5_lt : ∀ (d0 : Dev nD) (v10 : BitVec 32) (k0_hw1 : k0_chk1 d0 v10), ∀ (k0_h1 : k0_cond1 d0 v10 = 1#1), (k0_dev5 d0 v10) < nD := fun d0 v10 k0_hw1 k0_h1 => k0_hw1.2.2.1 k0_h1
theorem k0_dev6_lt : ∀ (d0 : Dev nD) (v10 : BitVec 32) (k0_hw1 : k0_chk1 d0 v10), ∀ (k0_h1 : k0_cond1 d0 v10 = 1#1), (k0_dev6 d0 v10) < nD := fun d0 v10 k0_hw1 k0_h1 => k0_hw1.2.2.2.1 k0_h1
theorem k0_dev7_lt : ∀ (d0 : Dev nD) (v10 : BitVec 32) (k0_hw1 : k0_chk1 d0 v10), ∀ (k0_h1 : k0_cond1 d0 v10 = 1#1), (k0_dev7 d0 v10) < nD := fun d0 v10 k0_hw1 k0_h1 => k0_hw1.2.2.2.2.1 k0_h1
theorem k0_dev8_lt : ∀ (d0 : Dev nD) (v10 : BitVec 32) (k0_hw1 : k0_chk1 d0 v10), ∀ (k0_h1 : k0_cond1 d0 v10 = 1#1), (k0_dev8 d0 v10) < nD := fun d0 v10 k0_hw1 k0_h1 => k0_hw1.2.2.2.2.2.1 k0_h1
theorem k0_dev9_lt : ∀ (d0 : Dev nD) (v10 : BitVec 32) (k0_hw1 : k0_chk1 d0 v10), ∀ (k0_h1 : k0_cond1 d0 v10 = 1#1), (k0_dev9 d0 v10) < nD := fun d0 v10 k0_hw1 k0_h1 => k0_hw1.2.2.2.2.2.2.1 k0_h1
theorem k0_dev10_lt : ∀ (d0 : Dev nD) (v10 : BitVec 32) (k0_hw1 : k0_chk1 d0 v10), ∀ (k0_h1 : k0_cond1 d0 v10 = 1#1), (k0_dev10 d0 v10) < nD := fun d0 v10 k0_hw1 k0_h1 => k0_hw1.2.2.2.2.2.2.2.1 k0_h1
theorem k0_dev11_lt : ∀ (d0 : Dev nD) (v10 : BitVec 32) (k0_hw1 : k0_chk1 d0 v10), ∀ (k0_h1 : k0_cond1 d0 v10 = 1#1), (k0_dev11 d0 v10) < nD := fun d0 v10 k0_hw1 k0_h1 => k0_hw1.2.2.2.2.2.2.2.2.1 k0_h1
theorem k0_dev12_lt : ∀ (d0 : Dev nD) (v10 : BitVec 32) (k0_hw1 : k0_chk1 d0 v10), ∀ (k0_h1 : k0_cond1 d0 v10 = 1#1), (k0_dev12 d0 v10) < nD := fun d0 v10 k0_hw1 k0_h1 => k0_hw1.2.2.2.2.2.2.2.2.2.1 k0_h1
theorem k0_dev31_lt : ∀ (d0 : Dev nD) (v10 : BitVec 32) (k0_hw1 : k0_chk1 d0 v10), ∀ (k0_h1 : k0_cond1 d0 v10 = 1#1), (k0_dev31 d0 v10) < nD := fun d0 v10 k0_hw1 k0_h1 => k0_hw1.2.2.2.2.2.2.2.2.2.2 k0_h1

def k0_dev32 (d0 : Dev nD) : Nat :=
  let c0_i32_1010_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1009_r0 : BitVec 32 := 4#32
  let v1027_r0 : BitVec 32 := Scalar.muli v2 c4_i32_1009_r0
  let v1028_r0 : BitVec 32 := Scalar.addi c0_i32_1010_r0 v1027_r0
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_14 v5
  let c2_i32_1011_r0 : BitVec 32 := 2#32
  let v1029_r0 : BitVec 32 := Scalar.muli v28 c2_i32_1011_r0
  let v1030_r0 : BitVec 32 := Scalar.addi v1028_r0 v1029_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1012_r0 : BitVec 32 := 1#32
  let v1031_r0 : BitVec 32 := Scalar.muli v8 c1_i32_1012_r0
  let v1032_r0 : BitVec 32 := Scalar.addi v1030_r0 v1031_r0
  v1032_r0.toNat
def k0_dev33 (d0 : Dev nD) : Nat :=
  let c0_i32_1015_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1014_r0 : BitVec 32 := 4#32
  let v1033_r0 : BitVec 32 := Scalar.muli v2 c4_i32_1014_r0
  let v1034_r0 : BitVec 32 := Scalar.addi c0_i32_1015_r0 v1033_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1016_r0 : BitVec 32 := 2#32
  let v1035_r0 : BitVec 32 := Scalar.muli v5 c2_i32_1016_r0
  let v1036_r0 : BitVec 32 := Scalar.addi v1034_r0 v1035_r0
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_1017_r0 : BitVec 32 := 1#32
  let v1037_r0 : BitVec 32 := Scalar.muli v29 c1_i32_1017_r0
  let v1038_r0 : BitVec 32 := Scalar.addi v1036_r0 v1037_r0
  v1038_r0.toNat
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .bf16⟩
  | .hbm, ⟨14, _⟩ => ⟨S2x2048x1024, .f32⟩
  | .hbm, ⟨15, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Value.lean ====
/-
  The values: what each precondition says of the permutation, what the reference computes for the two permutations of two
  elements, and how a device's block of that result reads the whole array.
-/
module

public import proofs.«01_k».proof.Proof.Gen.ReferenceIdeal.Run
public import proofs.«01_k».proof.Proof.Gen.Pre_is_swap_Kernel
public import proofs.«01_k».proof.Proof.Gen.Pre_is_identity_Kernel
public import Idealize.ShloMosaic.Lib.Layout
public import Idealize.ShloMosaic.Lib.Quiescent
public import Idealize.ShloMosaic.PureOps.Ideal

@[expose] public section

noncomputable section

namespace Cert.Permuted

open Idealize.ShloMosaic Idealize.SL.Sem
open Cert.ReferenceIdeal Cert.ReferenceIdeal.Gen

/-- The permutation exchanging the two blocks. -/
def swapped : IVec S2 32 := fun j => (![1#32, 0#32] : Fin 2 → BitVec 32) (j 0)

/-- The permutation leaving the two blocks in place. -/
def kept : IVec S2 32 := fun j => (![0#32, 1#32] : Fin 2 → BitVec 32) (j 0)

/-- The one index of a rank-1 array of two elements with coordinate `k`. -/
def at1 (k : Fin 2) : S2.Idx := fun b => ⟨k.val, by match b with | ⟨0, _⟩ => exact k.isLt⟩

/-- An array of two words is known by its two words. -/
theorem words_ext (p q : IVec S2 32) (h : ∀ k : Fin 2, p (at1 k) = q (at1 k)) : p = q := by
  funext j
  have e : j = at1 (j 0) := by
    funext b
    match b with
    | ⟨0, _⟩ => rfl
  rw [e]
  exact h _

/-! ## What the preconditions say -/

theorem and_one : ∀ a b : BitVec 1, a &&& b = 1#1 → a = 1#1 ∧ b = 1#1 := by decide

theorem eq_of_cmpi (a b : BitVec 32) (h : IntOp.cmpi .eq a b = 1#1) : a = b := by
  have e : BitVec.ofBool (a == b) = BitVec.ofBool true := h
  have e' : (a == b) = true := by
    cases hb : (a == b)
    · rw [hb] at e
      exact absurd e (by decide)
    · rfl
  exact eq_of_beq e'

theorem of_is_swap {F : FTy → Type} [FloatOps F] (x : FVec F Cert.Pre_is_swap_Kernel.S1x2048x1024 .bf16) (p : IVec S2 32)
    (h : Cert.Pre_is_swap_Kernel.fn x p = fun _ => 1#1) : p = swapped := by
  have h0 := and_one _ _ (congrFun h (fun a => a.elim0))
  refine words_ext _ _ fun k => ?_
  match k with
  | ⟨0, _⟩ =>
    refine Eq.trans (congrArg p ?_) (eq_of_cmpi _ _ h0.1)
    funext b
    match b with
    | ⟨0, _⟩ => rfl
  | ⟨1, _⟩ =>
    refine Eq.trans (congrArg p ?_) (eq_of_cmpi _ _ h0.2)
    funext b
    match b with
    | ⟨0, _⟩ => rfl

theorem of_is_identity {F : FTy → Type} [FloatOps F] (x : FVec F Cert.Pre_is_identity_Kernel.S1x2048x1024 .bf16)
    (p : IVec S2 32) (h : Cert.Pre_is_identity_Kernel.fn x p = fun _ => 1#1) : p = kept := by
  have h0 := and_one _ _ (congrFun h (fun a => a.elim0))
  refine words_ext _ _ fun k => ?_
  match k with
  | ⟨0, _⟩ =>
    refine Eq.trans (congrArg p ?_) (eq_of_cmpi _ _ h0.1)
    funext b
    match b with
    | ⟨0, _⟩ => rfl
  | ⟨1, _⟩ =>
    refine Eq.trans (congrArg p ?_) (eq_of_cmpi _ _ h0.2)
    funext b
    match b with
    | ⟨0, _⟩ => rfl

/-! ## The reference -/

/-- The row numbers the reference gathers by, of a permutation. -/
def rows (p : IVec S2 32) : IVec S2x1 32 :=
  broadcastInDim S2x1 ![0] bcast_S2_S2x1_0
    (select (cmpi .slt ((Host.sort2 S2 0 comparator_i32_i32_d0 p (iotaInDim S2 32 0)).2)
        (broadcastInDim S2 ![] bcast_S_S2 (constantI S_ 32 0#32)))
      (addi ((Host.sort2 S2 0 comparator_i32_i32_d0 p (iotaInDim S2 32 0)).2)
        (broadcastInDim S2 ![] bcast_S_S2 (constantI S_ 32 2#32)))
      ((Host.sort2 S2 0 comparator_i32_i32_d0 p (iotaInDim S2 32 0)).2))

theorem rows_swapped : rows swapped = fun k => (![1#32, 0#32] : Fin 2 → BitVec 32) (k 0) := by
  decide +kernel

theorem rows_kept : rows kept = fun k => (![0#32, 1#32] : Fin 2 → BitVec 32) (k 0) := by
  decide +kernel

/-- The index of the row number of block `k`. -/
def rowAt (j : S2x2048x1024.Idx) : S2x1.Idx := fun b =>
  ⟨if b = 0 then (j 0).val else 0, by
    match b with
    | ⟨0, _⟩ => exact (j 0).isLt
    | ⟨1, _⟩ => exact Nat.zero_lt_one⟩

/-- An index with its block replaced. -/
def inBlock (k : Fin 2) (j : S2x2048x1024.Idx) : S2x2048x1024.Idx := fun b =>
  ⟨if b = 0 then k.val else (j b).val, by
    match b with
    | ⟨0, _⟩ => exact k.isLt
    | ⟨1, _⟩ => exact (j 1).isLt
    | ⟨2, _⟩ => exact (j 2).isLt⟩

/-- The gather reads, at each index, the block its row number names. -/
theorem gather_apply {α : Type} (x : S2x2048x1024.Idx → α) (q : IVec S2x1 32) (j : S2x2048x1024.Idx) :
    Host.gather gather_S2x2048x1024_S2x1_S2x2048x1024_12_0_n_n_0_1_120481024 x q j
      = x (inBlock ⟨min (q (rowAt j)).toInt.toNat 1, by omega⟩ j) := by
  refine congrArg x (funext fun a => Fin.ext ?_)
  have hsi : ∀ k, GatherDims.siIdx gather_S2x2048x1024_S2x1_S2x2048x1024_12_0_n_n_0_1_120481024 j k = rowAt j := by
    intro k
    funext b
    refine Fin.ext ?_
    match b with
    | ⟨0, _⟩ => rfl
    | ⟨1, _⟩ => exact Nat.lt_one_iff.1 k.isLt
  have hn : ∀ b : Fin S2x2048x1024.rank, b.val ≠ 0
      → b ∉ gather_S2x2048x1024_S2x1_S2x2048x1024_12_0_n_n_0_1_120481024.startIndexMap :=
    fun b hb h => hb (congrArg Fin.val (List.mem_singleton.1 h))
  show GatherDims.start _ j q a + GatherDims.batchCoord _ j a + GatherDims.offCoord _ j a = _
  rw [GatherDims.batchCoord_eq_zero _ _ _ (List.not_mem_nil), Nat.add_zero]
  match a with
  | ⟨0, _⟩ =>
    rw [GatherDims.offCoord_eq_zero _ _ _ (fun h => ((GatherDims.mem_sKept _ _).1 h).1 (List.mem_singleton.2 rfl)), Nat.add_zero]
    unfold GatherDims.start
    rw [dif_pos (show (⟨0, by decide⟩ : Fin S2x2048x1024.rank)
        ∈ gather_S2x2048x1024_S2x1_S2x2048x1024_12_0_n_n_0_1_120481024.startIndexMap from List.mem_singleton.2 rfl), hsi]
    rfl
  | ⟨1, _⟩ =>
    unfold GatherDims.start
    rw [dif_neg (hn _ (Nat.succ_ne_zero _)), Nat.zero_add]
    rfl
  | ⟨2, _⟩ =>
    unfold GatherDims.start
    rw [dif_neg (hn _ (Nat.succ_ne_zero _)), Nat.zero_add]
    rfl

/-- The reference's result, of the permutation and the array. -/
def refOut (p : IVec S2 32) (x : FVec Ideal S2x2048x1024 .bf16) : FVec Ideal S2x2048x1024 .bf16 :=
  truncf .bf16 (extf .f32 (Host.gather gather_S2x2048x1024_S2x1_S2x2048x1024_12_0_n_n_0_1_120481024 x (rows p))
    bitsLt_bf16_f32) bitsLt_bf16_f32

/-- The two changes of format leave every element as it is. -/
theorem refOut_apply (p : IVec S2 32) (x : FVec Ideal S2x2048x1024 .bf16) (j : S2x2048x1024.Idx) :
    refOut p x j = x (inBlock ⟨min (rows p (rowAt j)).toInt.toNat 1, by omega⟩ j) :=
  gather_apply x (rows p) j

/-- The row number read for an index, under the swap: the other block. -/
theorem row_swapped (j : S2x2048x1024.Idx) : min (rows swapped (rowAt j)).toInt.toNat 1 = 1 - (j 0).val := by
  have h : ∀ k : Fin 2, min ((![1#32, 0#32] : Fin 2 → BitVec 32) k).toInt.toNat 1 = 1 - k.val := by decide
  have e : rows swapped (rowAt j) = (![1#32, 0#32] : Fin 2 → BitVec 32) (j 0) := congrFun rows_swapped (rowAt j)
  rw [e]
  exact h (j 0)

/-- The row number read for an index, under the identity: its own block. -/
theorem row_kept (j : S2x2048x1024.Idx) : min (rows kept (rowAt j)).toInt.toNat 1 = (j 0).val := by
  have h : ∀ k : Fin 2, min ((![0#32, 1#32] : Fin 2 → BitVec 32) k).toInt.toNat 1 = k.val := by decide
  have e : rows kept (rowAt j) = (![0#32, 1#32] : Fin 2 → BitVec 32) (j 0) := congrFun rows_kept (rowAt j)
  rw [e]
  exact h (j 0)

/-- Under the swap, a block of the result is the other block of the array. -/
theorem refOut_swapped (x : FVec Ideal S2x2048x1024 .bf16) (j : S2x2048x1024.Idx) :
    refOut swapped x j = x (inBlock ⟨1 - (j 0).val, by omega⟩ j) :=
  (refOut_apply swapped x j).trans (congrArg (fun k => x (inBlock k j)) (Fin.ext (row_swapped j)))

/-- Under the identity, the result is the array. -/
theorem refOut_kept (x : FVec Ideal S2x2048x1024 .bf16) : refOut kept x = x := by
  funext j
  refine (refOut_apply kept x j).trans (congrArg x (funext fun b => Fin.ext ?_))
  match b with
  | ⟨0, _⟩ => exact row_kept j
  | ⟨1, _⟩ => rfl
  | ⟨2, _⟩ => rfl

/-- The reference's run: its result is `refOut`, its arguments stay, and it has no semaphore. -/
theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v9)
        = refOut (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩)
    (Cert.ReferenceIdeal.Value.run (F := Ideal) m ρ)

/-! ## A device's block -/

/-- Device `c`'s block of a whole array, as the mesh lays it. -/
abbrev part {α : Type} (c : Fin 8) (v : S2x2048x1024.Idx → α) : (⟨3, ![1, 2048, 1024]⟩ : Shape).Idx → α :=
  Layout.blockN ⟨3, ![1, 2048, 1024]⟩ ⟨3, ![2, 2048, 1024]⟩ (Layout.meshBlock [2, 2, 2] ![[0], [], []] c) v

/-- Device `c`'s block of a whole array: the block of its place along the first mesh axis. -/
theorem part_apply {α : Type} (c : Fin 8) (v : S2x2048x1024.Idx → α) (i : (⟨3, ![1, 2048, 1024]⟩ : Shape).Idx) :
    part c v i
      = v (fun b => ⟨if b = 0 then c.val / 4 else (i b).val, by
          match b with
          | ⟨0, _⟩ => have := c.isLt; show c.val / 4 < 2; omega
          | ⟨1, _⟩ => exact (i 1).isLt
          | ⟨2, _⟩ => exact (i 2).isLt⟩) := by
  have hc : ∀ c : Fin 8, Layout.meshLin [2, 2, 2] c.val [0] = c.val / 4 := by decide
  refine congrArg v (funext fun b => Fin.ext ?_)
  match b with
  | ⟨0, _⟩ =>
    have h1 : (i 0).val < 1 := (i 0).isLt
    have h2 := hc c
    show Layout.meshLin [2, 2, 2] c.val [0] * 1 + (i 0).val = c.val / 4
    omega
  | ⟨1, _⟩ =>
    show 0 * 2048 + (i 1).val = (i 1).val
    omega
  | ⟨2, _⟩ =>
    show 0 * 1024 + (i 2).val = (i 2).val
    omega

/-- Under the swap, a device's block of the result is any device's block of the array from the other side. -/
theorem part_swapped (c s : Fin 8) (h : s.val / 4 = 1 - c.val / 4) (x : FVec Ideal S2x2048x1024 .bf16)
    (i : (⟨3, ![1, 2048, 1024]⟩ : Shape).Idx) :
    part c (refOut swapped x) i = part s x i := by
  rw [part_apply, part_apply, refOut_swapped]
  refine congrArg x (funext fun b => Fin.ext ?_)
  match b with
  | ⟨0, _⟩ => exact h.symm
  | ⟨1, _⟩ => rfl
  | ⟨2, _⟩ => rfl

end Cert.Permuted

end
-- ==== Proof.TableI.lean ====
/-
  The protocol's tables: the three neighbours of a device, the twenty-seven transfers a device issues, their semaphore
  cells, and the rows of the result that each transfer fills. Rows are counted in bands of sixteen, in which every
  boundary the kernel uses is a whole number, so that each fact about rows is a finite check.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.KernelIdeal.Swap

open Cert.KernelIdeal Cert.KernelIdeal.Gen
open Idealize.ShloMosaic
open Idealize.ShloMosaic.TcCoe

/-! ## Neighbours -/

set_option backward.proofsInPublic true in
/-- The neighbour of a device along mesh axis `d` (0, 1, 2 for x, y, z): the device that differs in that coordinate only. -/
def peer (d : Fin 3) (c : Dev nD) : Dev nD :=
  ⟨(match d with
    | 0 => c.val + 4
    | 1 => (4 * (c.val / 4) + c.val % 2 + 2) - 2 * ((c.val / 2) % 2)
    | 2 => (4 * (c.val / 4) + 2 * ((c.val / 2) % 2) + 1) - c.val % 2) % 8, Nat.mod_lt _ (by decide)⟩

/-- Going to a neighbour and back along one axis. -/
theorem peer_peer (d : Fin 3) (c : Dev nD) : peer d (peer d c) = c := by revert d c; decide

/-- The neighbourhood along one axis as an equivalence of the devices. -/
def peerEquiv (d : Fin 3) : Dev nD ≃ Dev nD := ⟨peer d, peer d, peer_peer d, peer_peer d⟩

/-! ## Transfers -/

/-- The axis along which transfer `i` goes: 0–7 and 24 to the x neighbour, 8–15 and 25 to the y neighbour, 16–23 and 26 to
    the z neighbour. -/
def dir (i : Fin 27) : Fin 3 :=
  if i.val < 8 ∨ i.val = 24 then 0 else if i.val < 16 ∨ i.val = 25 then 1 else 2

/-- The neighbour transfer `i` of a device is addressed to. -/
abbrev tgt (i : Fin 27) (c : Dev nD) : Dev nD := peer (dir i) c

/-- The first band of a device's own quarter of the rows. -/
def qtr (c : Dev nD) : ℕ := 64 * ((c.val / 2) % 2) + 32 * (c.val % 2)

/-- The first band of the rows transfer `i` fills ON device `c`. -/
def lo (c : Dev nD) (i : Fin 27) : ℕ :=
  if i.val < 8 then qtr c + 4 * i.val
  else if i.val < 16 then qtr (peer 1 c) + 4 * (i.val - 8)
  else if i.val < 24 then qtr (peer 2 c) + 4 * (i.val - 16)
  else if i.val = 24 then qtr (peer 1 (peer 2 c)) + 22
  else if i.val = 25 then qtr (peer 1 (peer 2 c))
  else qtr (peer 1 (peer 2 c)) + 11

/-- How many bands transfer `i` fills. -/
def len (i : Fin 27) : ℕ := if i.val < 24 then 4 else if i.val = 24 then 10 else 11

/-- Band `b` lies in piece `j` of device `c`'s result. Pieces 0–26 are what the transfers fill; pieces 29 and 30 are what
    device `c` sends on by its transfers 25 and 26, and 27 and 28 what those leave over of the pieces they are cut from. -/
def inP (c : Dev nD) (j : Fin 31) (b : ℕ) : Prop :=
  if h : j.val < 27 then lo c ⟨j.val, h⟩ ≤ b ∧ b < lo c ⟨j.val, h⟩ + len ⟨j.val, h⟩
  else if j.val = 27 then b = qtr (peer 2 c) + 11
  else if j.val = 28 then (qtr (peer 1 c) + 8 ≤ b ∧ b < qtr (peer 1 c) + 11) ∨ (qtr (peer 1 c) + 22 ≤ b ∧ b < qtr (peer 1 c) + 24)
  else if j.val = 29 then qtr (peer 2 c) ≤ b ∧ b < qtr (peer 2 c) + 11
  else qtr (peer 1 c) + 11 ≤ b ∧ b < qtr (peer 1 c) + 22

instance (c : Dev nD) (j : Fin 31) (b : ℕ) : Decidable (inP c j b) := by unfold inP; infer_instance

/-- A transfer's index as a piece's. -/
abbrev pc27 (i : Fin 27) : Fin 31 := Fin.castLE (by decide) i

/-- The device whose block of `x` band `b` of device `c`'s result comes from: the device across the x axis that owns the
    band's quarter, but for the last ten bands of the diagonal quarter, which the x neighbour sends itself. -/
def srcDev (c : Dev nD) (b : ℕ) : Dev nD :=
  if qtr (peer 1 (peer 2 c)) + 22 ≤ b ∧ b < qtr (peer 1 (peer 2 c)) + 32 then peer 0 c
  else ⟨(4 * (1 - c.val / 4) + 2 * (b / 64) + (b / 32) % 2) % 8, Nat.mod_lt _ (by decide)⟩

/-! ## Finite facts about bands -/

/-- The transfer that fills band `b` on device `c`, read off the band's quarter. -/
def own (c : Dev nD) (b : ℕ) : ℕ :=
  if 32 * (b / 32) = qtr c then (b % 32) / 4
  else if 32 * (b / 32) = qtr (peer 1 c) then 8 + (b % 32) / 4
  else if 32 * (b / 32) = qtr (peer 2 c) then 16 + (b % 32) / 4
  else if b % 32 < 11 then 25 else if b % 32 < 22 then 26 else 24

/-- Each band is filled by exactly one transfer. -/
theorem inP_iff_own : ∀ c : Dev nD, ∀ b : Fin 128, ∀ i : Fin 27, inP c (pc27 i) b ↔ own c b = i.val := by decide +kernel
theorem own_lt : ∀ c : Dev nD, ∀ b : Fin 128, own c b < 27 := by decide +kernel

/-- The pieces held at the end, of which no two share a band and all together are every band: -/
def lastP : Finset (Fin 31) := {26, 25, 24, 23, 22, 21, 20, 19, 15, 14, 28, 9, 8, 27, 29, 30, 0, 1, 2, 3, 4, 5, 6, 7}

/-- the one of them that holds band `b`. -/
def ownLast (c : Dev nD) (b : ℕ) : ℕ :=
  if 32 * (b / 32) = qtr (peer 1 c) then
    if b % 32 < 8 then 8 + (b % 32) / 4 else if b % 32 < 11 then 28 else if b % 32 < 22 then 30
    else if b % 32 < 24 then 28 else 8 + (b % 32) / 4
  else if 32 * (b / 32) = qtr (peer 2 c) then
    if b % 32 < 11 then 29 else if b % 32 < 12 then 27 else 16 + (b % 32) / 4
  else own c b

theorem inP_iff_ownLast : ∀ c : Dev nD, ∀ b : Fin 128, ∀ j ∈ lastP, inP c j b ↔ ownLast c b = j.val := by decide +kernel
theorem ownLast_mem : ∀ c : Dev nD, ∀ b : Fin 128, ∃ j ∈ lastP, ownLast c b = j.val := by decide +kernel

/-- What an own quarter's transfer brings comes from the x neighbour. -/
theorem srcDev_x : ∀ c : Dev nD, ∀ i : Fin 27, dir i = 0 → ∀ b : Fin 128, inP (tgt i c) (pc27 i) b → srcDev (tgt i c) b = c := by decide +kernel

/-- What is passed on keeps its origin: on the bands of a transfer along y or z the sender and the receiver hold the same. -/
theorem srcDev_yz : ∀ c : Dev nD, ∀ i : Fin 27, dir i ≠ 0 → ∀ b : Fin 128, inP (tgt i c) (pc27 i) b → srcDev (tgt i c) b = srcDev c b := by
  decide +kernel

/-- Every band of a device's result comes from across the x axis. -/
theorem srcDev_across : ∀ c : Dev nD, ∀ b : Fin 128, (srcDev c b).val / 4 = 1 - c.val / 4 := by decide +kernel

end Cert.KernelIdeal.Swap

end
-- ==== Proof.ProtoI.lean ====
/-
  The protocol of the exchange, as a schedule of one round per semaphore cell: who pays which cell, how much, and what the
  payment hands over; what each device owes at the start; and the order of the cells (levels) that every wait respects.

  * the barrier cell of a device is paid one unit by each neighbour; with its unit a neighbour hands over the rows of ITS
    result that the device's transfers along that axis fill;
  * the exit cell is paid one unit by each neighbour, handing over nothing;
  * receive cell `i` is paid by the neighbour's transfer `i`, and hands over the rows it filled at their final contents;
  * send cell `i` is paid by the device's own transfer `i`, and hands its source back.
-/
module

public import proofs.«01_k».proof.Proof.TableI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the exchange's, whose duties are named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

/-- The contents of a block of `x` or of the result. -/
abbrev Blk (F : FTy → Type) [FloatOps F] : Type := S1x2048x1024.Idx → Elt F .bf16

abbrev xM : Memref sig .tc .vmem S1x2048x1024 .bf16 := Memref.whole cc0_stg0_0
abbrev piM : Memref sig .tc .smem S2 .i32 := Memref.whole cc0_stg1_0
abbrev oM : Memref sig .tc .vmem S1x2048x1024 .bf16 := Memref.whole cc0_stg2_0
abbrev sM : Memref sig .tc .vmem S8x64x1024 .bf16 := Memref.whole cc0_scratch0
abbrev bM : Memref sig .tc .vmem S160x1024 .bf16 := Memref.whole cc0_scratch1

abbrev xLoc (c : Dev nD) : Loc nD τ sig := (c : Thread nD τ).loc cc0_stg0_0
abbrev piLoc (c : Dev nD) : Loc nD τ sig := (c : Thread nD τ).loc cc0_stg1_0
abbrev oLoc (c : Dev nD) : Loc nD τ sig := (c : Thread nD τ).loc cc0_stg2_0
abbrev sLoc (c : Dev nD) : Loc nD τ sig := (c : Thread nD τ).loc cc0_scratch0
abbrev bLoc (c : Dev nD) : Loc nD τ sig := (c : Thread nD τ).loc cc0_scratch1

/-- The rows of piece `j` of the result on device `c`. -/
def pset (c : Dev nD) (j : Fin 31) : Finset S1x2048x1024.Idx := Finset.univ.filter fun x => inP c j ((x 1).val / 16)

/-- Chunk `r` of the send buffer. -/
def chunk (r : ℕ) : Finset S8x64x1024.Idx := Finset.univ.filter fun x => (x 0).val = r

variable (X : Dev nD → Blk F)

/-- The result on device `c`: each row from the device it comes from (all of them hold the same rows when the blocks are
    replicated over y and z, which the exchange itself does not need). -/
def outAt (c : Dev nD) : Blk F := fun x => X (srcDev c ((x 1).val / 16)) x

/-- Some contents of the elements `A` of the result buffer of device `c`. -/
def someOut (c : Dev nD) (A : Finset S1x2048x1024.Idx) : sProp 𝕄 :=
  iprop(∃ f : Buf (Elt F) (oLoc c), (oLoc c ↦[A]{fullShare} f : sProp 𝕄))

/-- Piece `j` of the result of device `c` at its final contents, share `q`. -/
def piece (q : PosShare TreeShare) (c : Dev nD) (j : Fin 31) : sProp 𝕄 := (oLoc c ↦[pset c j]{q} (outAt X c : Buf (Elt F) (oLoc c)) : sProp 𝕄)

/-- Some contents of chunk `r` of the send buffer; of the direct send buffer. -/
def someChunk (c : Dev nD) (r : ℕ) : sProp 𝕄 := iprop(∃ f : Buf (Elt F) (sLoc c), (sLoc c ↦[chunk r]{fullShare} f : sProp 𝕄))
def someBd (c : Dev nD) : sProp 𝕄 := iprop(∃ f : Buf (Elt F) (bLoc c), (bLoc c ↦[Finset.univ]{fullShare} f : sProp 𝕄))

/-! ## Cells -/

abbrev barS : Sem sig := (SemArray.scalar (sig.barrier 0 rfl) : Sems sig S_).sem
abbrev exitS : Sem sig := (cc0_scoped0 : Sems sig S_).sem

set_option backward.proofsInPublic true in
/-- The send semaphore of transfer `i`, -/
def snd (i : Fin 27) : DmaSem sig := ⟨if i.val < 24 then 3 + i.val else 27 + i.val, by have := i.isLt; show _ < 57; split <;> omega⟩
set_option backward.proofsInPublic true in
/-- and its receive semaphore. -/
def rcv (i : Fin 27) : DmaSem sig := ⟨if i.val < 24 then 27 + i.val else 30 + i.val, by have := i.isLt; show _ < 57; split <;> omega⟩

/-- What a semaphore is for. -/
inductive Role
  | bar | exit | snd (i : Fin 27) | rcv (i : Fin 27) | other
deriving DecidableEq

set_option backward.proofsInPublic true in
/-- The role of each semaphore of a TensorCore. -/
def role : SemLoc sig → Role
  | .reg s => if s = barS then .bar else if s = exitS then .exit else .other
  | .dma s =>
    if h : 3 ≤ s.val ∧ s.val < 27 then .snd ⟨s.val - 3, by omega⟩
    else if h : 27 ≤ s.val ∧ s.val < 51 then .rcv ⟨s.val - 27, by omega⟩
    else if h : 51 ≤ s.val ∧ s.val < 54 then .snd ⟨s.val - 27, by omega⟩
    else if h : 54 ≤ s.val ∧ s.val < 57 then .rcv ⟨s.val - 30, by omega⟩
    else .other

theorem role_bar : role (.reg barS) = .bar := by decide
theorem role_exit : role (.reg exitS) = .exit := by decide
theorem role_snd (i : Fin 27) : role (.dma (snd i)) = .snd i := by revert i; decide
theorem role_rcv (i : Fin 27) : role (.dma (rcv i)) = .rcv i := by revert i; decide

abbrev barCell (c : Dev nD) : GSem nD τ sig := ((c : Thread nD τ), .reg barS)
abbrev exitCell (c : Dev nD) : GSem nD τ sig := ((c : Thread nD τ), .reg exitS)
abbrev sndCell (c : Dev nD) (i : Fin 27) : GSem nD τ sig := ((c : Thread nD τ), .dma (snd i))
abbrev rcvCell (c : Dev nD) (i : Fin 27) : GSem nD τ sig := ((c : Thread nD τ), .dma (rcv i))

/-- The credit of transfer `i`: that of its number of rows. -/
def N (i : Fin 27) : ℕ :=
  if i.val < 24 then (cc0_stg2_0 : Ref sig .tc).dmaCredit S64x1024 .bf16
  else if i.val = 24 then (cc0_stg2_0 : Ref sig .tc).dmaCredit S160x1024 .bf16
  else (cc0_stg2_0 : Ref sig .tc).dmaCredit S176x1024 .bf16

theorem N_pos (i : Fin 27) : 0 < N i := by
  unfold N
  split
  · exact sig.dmaCredit_pos _ _ _ _ _ (by decide)
  split
  · exact sig.dmaCredit_pos _ _ _ _ _ (by decide)
  · exact sig.dmaCredit_pos _ _ _ _ _ (by decide)

/-! ## Payloads -/

/-- The share of its source a transfer of rows of the result holds: half of rows that go to two neighbours. -/
def shr (i : Fin 27) : PosShare TreeShare := if i.val < 16 then fullShare.left else if i.val < 24 then fullShare.right else fullShare

/-- The piece a transfer of rows of the result is read from. -/
def srcPc (i : Fin 27) : Fin 31 :=
  if i.val < 16 then ⟨i.val - 8, by omega⟩ else if i.val < 24 then ⟨i.val - 16, by omega⟩ else if i.val = 25 then 29 else 30

/-- It is the same rows on the sender as on the receiver. -/
theorem srcPc_band : ∀ c : Dev nD, ∀ i : Fin 27, 8 ≤ i.val ∧ i.val ≠ 24 → ∀ b : Fin 128, inP c (srcPc i) b ↔ inP (tgt i c) (pc27 i) b := by
  decide +kernel

/-- The source of transfer `i` of device `c`, as its send cell gives it back: a chunk of a send buffer, or rows of the
    result. -/
def srcPay (c : Dev nD) (i : Fin 27) : sProp 𝕄 :=
  if i.val < 8 then someChunk c i.val else if i.val = 24 then someBd c else piece X (shr i) c (srcPc i)

/-- The rows of its neighbour's result that device `c`'s transfer `i` fills. -/
def grant (c : Dev nD) (i : Fin 27) : sProp 𝕄 := someOut (F := F) (tgt i c) (pset (tgt i c) (pc27 i))

/-- What the neighbour along axis `d` hands device `c` at the barrier. -/
def barPay (c : Dev nD) (d : Fin 3) : sProp 𝕄 := bigSep (Finset.univ.filter fun i : Fin 27 => dir i = d) fun i => grant (F := F) c i

instance someOut_storable (c : Dev nD) (A) : BI.Storable (upEmb : UEmb _ 𝕄) (someOut (F := F) c A) := by unfold someOut; infer_instance
instance piece_storable (q) (c : Dev nD) (j) : BI.Storable (upEmb : UEmb _ 𝕄) (piece X q c j) := by unfold piece; infer_instance
instance srcPay_storable (c : Dev nD) (i) : BI.Storable (upEmb : UEmb _ 𝕄) (srcPay X c i) := by
  unfold srcPay someChunk someBd; (repeat' split) <;> infer_instance
instance barPay_storable (c : Dev nD) (d) : BI.Storable (upEmb : UEmb _ 𝕄) (barPay (F := F) c d) := by unfold barPay grant; infer_instance

/-- The duties of a cell of each role: a barrier and the exit are paid along each axis, a transfer's cells once. -/
def dut : Role → Finset (Fin 3)
  | .bar => Finset.univ
  | .exit => Finset.univ
  | .snd _ => {0}
  | .rcv _ => {0}
  | .other => ∅

/-- The schedule: one round for each cell with a role. -/
def rd : Rounds.Schedule (GSem nD τ sig) (Fin 3) 𝕄 where
  duties g r := if r = 0 ∧ g.1.2 = .tc then dut (role g.2) else ∅
  unitless _ := False
  amount g _ _ := match role g.2 with
    | .snd i => N i | .rcv i => N i | _ => 1
  payload g _ d := match role g.2 with
    | .bar => barPay g.1.1 d
    | .snd i => srcPay X g.1.1 i
    | .rcv i => piece X fullShare g.1.1 (pc27 i)
    | _ => iprop(emp)
  amount_pos g _ _ _ := by
    split
    · exact N_pos _
    · exact N_pos _
    · exact Nat.one_pos

instance rd_payload_storable (g : GSem nD τ sig) (r : ℕ) (d : Fin 3) : BI.Storable (upEmb : UEmb _ 𝕄) ((rd X).payload g r d) := by
  show BI.Storable upEmb (match role g.2 with
    | .bar => barPay g.1.1 d | .snd i => srcPay X g.1.1 i | .rcv i => piece X fullShare g.1.1 (pc27 i) | _ => iprop(emp))
  split <;> infer_instance

section Sched
variable (c : Dev nD) (i : Fin 27) (d : Fin 3)

theorem duties_bar : (rd X).duties (barCell c) 0 = Finset.univ := by
  show (if (0 : ℕ) = 0 ∧ (barCell c).1.2 = .tc then dut (role (barCell c).2) else ∅) = _; rw [if_pos ⟨rfl, rfl⟩, role_bar]; rfl
theorem duties_exit : (rd X).duties (exitCell c) 0 = Finset.univ := by
  show (if (0 : ℕ) = 0 ∧ (exitCell c).1.2 = .tc then dut (role (exitCell c).2) else ∅) = _; rw [if_pos ⟨rfl, rfl⟩, role_exit]; rfl
theorem duties_snd : (rd X).duties (sndCell c i) 0 = {0} := by
  show (if (0 : ℕ) = 0 ∧ (sndCell c i).1.2 = .tc then dut (role (sndCell c i).2) else ∅) = _; rw [if_pos ⟨rfl, rfl⟩, role_snd]; rfl
theorem duties_rcv : (rd X).duties (rcvCell c i) 0 = {0} := by
  show (if (0 : ℕ) = 0 ∧ (rcvCell c i).1.2 = .tc then dut (role (rcvCell c i).2) else ∅) = _; rw [if_pos ⟨rfl, rfl⟩, role_rcv]; rfl
/-- No cell has a second round. -/
theorem duties_later (g : GSem nD τ sig) (r : ℕ) (hr : 1 ≤ r) : (rd X).duties g r = ∅ := if_neg fun h => by omega

theorem amount_bar : (rd X).amount (barCell c) 0 d = 1 := by
  show (match role (.reg barS) with | .snd i => N i | .rcv i => N i | _ => 1) = 1; rw [role_bar]
theorem amount_exit : (rd X).amount (exitCell c) 0 d = 1 := by
  show (match role (.reg exitS) with | .snd i => N i | .rcv i => N i | _ => 1) = 1; rw [role_exit]
theorem amount_snd : (rd X).amount (sndCell c i) 0 d = N i := by
  show (match role (.dma (snd i)) with | .snd i => N i | .rcv i => N i | _ => 1) = N i; rw [role_snd]
theorem amount_rcv : (rd X).amount (rcvCell c i) 0 d = N i := by
  show (match role (.dma (rcv i)) with | .snd i => N i | .rcv i => N i | _ => 1) = N i; rw [role_rcv]

theorem expect_bar : (rd X).expect (barCell c) 0 = 3 := by
  unfold Schedule.expect Schedule.amountOf; rw [duties_bar, Finset.sum_congr rfl fun d _ => amount_bar X c d]; rfl
theorem expect_exit : (rd X).expect (exitCell c) 0 = 3 := by
  unfold Schedule.expect Schedule.amountOf; rw [duties_exit, Finset.sum_congr rfl fun d _ => amount_exit X c d]; rfl
theorem expect_snd : (rd X).expect (sndCell c i) 0 = N i := by
  unfold Schedule.expect Schedule.amountOf; rw [duties_snd, Finset.sum_singleton, amount_snd]
theorem expect_rcv : (rd X).expect (rcvCell c i) 0 = N i := by
  unfold Schedule.expect Schedule.amountOf; rw [duties_rcv, Finset.sum_singleton, amount_rcv]

theorem payload_bar : (rd X).payload (barCell c) 0 d = barPay c d := by
  show (match role (.reg barS) with
    | .bar => barPay c d | .snd i => srcPay X c i | .rcv i => piece X fullShare c (pc27 i) | _ => iprop(emp)) = _; rw [role_bar]
theorem payload_exit : (rd X).payload (exitCell c) 0 d = iprop(emp) := by
  show (match role (.reg exitS) with
    | .bar => barPay c d | .snd i => srcPay X c i | .rcv i => piece X fullShare c (pc27 i) | _ => iprop(emp)) = _; rw [role_exit]
theorem payload_snd : (rd X).payload (sndCell c i) 0 d = srcPay X c i := by
  show (match role (.dma (snd i)) with
    | .bar => barPay c d | .snd i => srcPay X c i | .rcv i => piece X fullShare c (pc27 i) | _ => iprop(emp)) = _; rw [role_snd]
theorem payload_rcv : (rd X).payload (rcvCell c i) 0 d = piece X fullShare c (pc27 i) := by
  show (match role (.dma (rcv i)) with
    | .bar => barPay c d | .snd i => srcPay X c i | .rcv i => piece X fullShare c (pc27 i) | _ => iprop(emp)) = _; rw [role_rcv]

theorem rest_snd : bigSep ((rd X).duties (sndCell c i) 0 \ ∅) (fun d => (rd X).payload (sndCell c i) 0 d) = srcPay X c i := by
  rw [Finset.sdiff_empty, duties_snd, bigSep_singleton, payload_snd]
theorem rest_rcv : bigSep ((rd X).duties (rcvCell c i) 0 \ ∅) (fun d => (rd X).payload (rcvCell c i) 0 d) = piece X fullShare c (pc27 i) := by
  rw [Finset.sdiff_empty, duties_rcv, bigSep_singleton, payload_rcv]
/-- What the whole barrier round hands over: every transfer's rows at its neighbour. -/
theorem rest_bar : bigSep ((rd X).duties (barCell c) 0 \ ∅) (fun d => (rd X).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]; rfl
end Sched

/-! ## What is owed, and the levels -/

/-- The transfers not in the list `s`, and those in it. -/
def out (s : List (Fin 27)) : Finset (Fin 27) := Finset.univ.filter (· ∉ s)
def inn (s : List (Fin 27)) : Finset (Fin 27) := Finset.univ.filter (· ∈ s)

/-- What device `c` owes the exit cells: a unit to each neighbour's. -/
def owedExit (c : Dev nD) : CellTallies nD τ sig Unit :=
  tallyAt (exitCell (peer 2 c)) () 1 + tallyAt (exitCell (peer 1 c)) () 1 + tallyAt (exitCell (peer 0 c)) () 1
/-- What it owes once it has issued the transfers `s`: the others' credits, and the exit units. -/
def owed (c : Dev nD) (s : List (Fin 27)) : CellTallies nD τ sig Unit :=
  (∑ i ∈ out s, tallyAt (rcvCell (tgt i c) i) () (N i)) + owedExit c
/-- What it owes at launch: that, before any transfer, and a unit to each neighbour's barrier cell. -/
def O₀ (c : Dev nD) : CellTallies nD τ sig Unit :=
  owed c [] + tallyAt (barCell (peer 2 c)) () 1 + tallyAt (barCell (peer 1 c)) () 1 + tallyAt (barCell (peer 0 c)) () 1

/-- The level of a role: staging and send cells lowest, then the barrier, then the receives in the order the data passes
    through them (from x; passed on once; passed on twice), then the exit. -/
def lvl : Role → ℕ
  | .bar => 1
  | .exit => 5
  | .rcv i => if i.val < 8 ∨ i.val = 24 then 2 else if i.val < 24 then 3 else 4
  | .snd _ => 0
  | .other => 0

def L (g : GSem nD τ sig) : Finset Unit := if g.1.2 = .tc then {()} else ∅
def lv (g : GSem nD τ sig) (_ : Unit) : ℕ := lvl (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g h : GSem nD τ sig} {u : Unit} {n : ℕ} (hp : 0 < (tallyAt h () n : CellTallies nD τ sig Unit) g u) : g = h := by
  rw [tallyAt_apply] at hp
  by_contra hn
  rw [if_neg fun h' => hn h'.1] at hp
  exact Nat.lt_irrefl 0 hp

theorem owedExit_pos {c : Dev nD} {g : GSem nD τ sig} {u : Unit} (h : 0 < owedExit c g u) : ∃ c', g = exitCell c' := by
  unfold owedExit at h
  rw [Pi.add_apply, Finsupp.add_apply, Pi.add_apply, Finsupp.add_apply] at h
  rcases Nat.eq_zero_or_pos ((tallyAt (exitCell (peer 2 c)) () 1 : CellTallies nD τ sig Unit) g u) with h2 | h2
  · rcases Nat.eq_zero_or_pos ((tallyAt (exitCell (peer 1 c)) () 1 : CellTallies nD τ sig Unit) g u) with h1 | h1
    · rw [h2, h1, Nat.zero_add] at h; exact ⟨_, tally_pos h⟩
    · exact ⟨_, tally_pos h1⟩
  · exact ⟨_, tally_pos h2⟩

/-- Whatever is owed after the transfers `s` is owed to the receive cell of a transfer not in `s`, or to an exit cell. -/
theorem owed_pos {c : Dev nD} {s : List (Fin 27)} {g : GSem nD τ sig} {u : Unit} (h : 0 < owed c s g u) :
    (∃ i ∈ out s, g = rcvCell (tgt i c) i) ∨ ∃ c', g = exitCell c' := by
  unfold owed at h
  rw [Pi.add_apply, Finsupp.add_apply] at h
  rcases Nat.eq_zero_or_pos ((∑ i ∈ out s, (tallyAt (rcvCell (tgt i c) i) () (N i) : CellTallies nD τ sig Unit)) g u) with h1 | h1
  · rw [h1, Nat.zero_add] at h; exact Or.inr (owedExit_pos h)
  · left
    by_contra hn
    refine absurd h1 (Nat.not_lt.mpr (Nat.le_of_eq ?_))
    rw [Finset.sum_apply, Finsupp.finset_sum_apply]
    refine Finset.sum_eq_zero fun i hi => ?_
    by_contra h0
    exact hn ⟨i, hi, tally_pos (Nat.pos_of_ne_zero h0)⟩

theorem O₀_pos {c : Dev nD} {g : GSem nD τ sig} {u : Unit} (h : 0 < O₀ c g u) :
    (∃ c' i, g = rcvCell c' i) ∨ (∃ c', g = exitCell c') ∨ ∃ c', g = barCell c' := by
  unfold O₀ at h
  rw [Pi.add_apply, Finsupp.add_apply, Pi.add_apply, Finsupp.add_apply, Pi.add_apply, Finsupp.add_apply] at h
  rcases Nat.eq_zero_or_pos (owed c [] g u) with h0 | h0
  · rcases Nat.eq_zero_or_pos ((tallyAt (barCell (peer 2 c)) () 1 : CellTallies nD τ sig Unit) g u) with h2 | h2
    · rcases Nat.eq_zero_or_pos ((tallyAt (barCell (peer 1 c)) () 1 : CellTallies nD τ sig Unit) g u) with h1 | h1
      · rw [h0, h2, h1, Nat.zero_add] at h; exact Or.inr (Or.inr ⟨_, tally_pos h⟩)
      · exact Or.inr (Or.inr ⟨_, tally_pos h1⟩)
    · exact Or.inr (Or.inr ⟨_, tally_pos h2⟩)
  · rcases owed_pos h0 with ⟨i, -, h⟩ | h
    · exact Or.inl ⟨_, i, h⟩
    · exact Or.inr (Or.inl h)

/-- A core may wait on a cell of its own whose level is below every cell it owes. -/
theorem mayWait_of (c : Dev nD) (sm : SemLoc sig) (O : CellTallies nD τ sig Unit)
    (h : ∀ g u, 0 < O g u → g.1.2 = .tc ∧ lvl (role sm) < lvl (role g.2)) :
    (levAts L lv : sProp 𝕄) ⊢ MayWait (c : Thread nD τ) sm () O :=
  MayOwe.of_cut (L := L) (lev := lv) (lvl (role sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

/-- The form every wait of the exchange takes: below the transfers not yet issued, and below the exit. -/
theorem mayWait_owed (c : Dev nD) (sm : SemLoc sig) (s : List (Fin 27)) (h : ∀ i ∈ out s, lvl (role sm) < lvl (.rcv i)) (h' : lvl (role sm) < 5) :
    (levAts L lv : sProp 𝕄) ⊢ MayWait (c : Thread nD τ) sm () (owed c s) :=
  mayWait_of c sm _ fun g u hg => by
    rcases owed_pos hg with ⟨i, hi, rfl⟩ | ⟨c', rfl⟩
    · exact ⟨rfl, by rw [role_rcv]; exact h i hi⟩
    · exact ⟨rfl, by rw [role_exit]; exact h'⟩

theorem mayWait_low (c : Dev nD) (sm : SemLoc sig) (h : lvl (role sm) = 0) : (levAts L lv : sProp 𝕄) ⊢ MayWait (c : Thread nD τ) sm () (O₀ c) :=
  mayWait_of c sm _ fun g u hg => by
    rcases O₀_pos hg with ⟨c', i, rfl⟩ | ⟨c', rfl⟩ | ⟨c', rfl⟩
    · refine ⟨rfl, ?_⟩; rw [h, role_rcv]; clear hg; revert i; decide
    · refine ⟨rfl, ?_⟩; rw [h, role_exit]; decide
    · refine ⟨rfl, ?_⟩; rw [h, role_bar]; decide

end Cert.KernelIdeal.Swap

end
-- ==== Proof.StepsI.lean ====
/-
  The exchange step by step. `St` is what device `c` holds between two operations of the exchange, told by lists: which
  transfers it has issued (`s`), which arrivals (`w`) and which departures (`v`) it has waited for, which chunks of its send
  buffers it has filled (`g`), which transfers' sources it has ready in hand (`h`), and which pieces of its result it holds
  otherwise (`p`). Each operation the kernel does there moves `St` from one value of the lists to the next.
-/
module

public import proofs.«01_k».proof.Proof.ProtoI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a TensorCore's program on device `c`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## Taking one element out of, or putting one into, the sets told by lists -/

section Sets
variable {M : Type} [URA M] {s : List (Fin 27)} {i : Fin 27}

theorem out_eq (h : i ∉ s) : out s = insert i (out (i :: s)) := by
  ext j; simp only [out, Finset.mem_filter, Finset.mem_univ, true_and, Finset.mem_insert, List.mem_cons, not_or]
  constructor
  · intro hj; by_cases e : j = i
    · exact Or.inl e
    · exact Or.inr ⟨e, hj⟩
  · rintro (rfl | ⟨-, hj⟩)
    · exact h
    · exact hj
theorem not_mem_out : i ∉ out (i :: s) := by simp [out]
theorem inn_eq : inn (i :: s) = insert i (inn s) := by
  ext j; simp only [inn, Finset.mem_filter, Finset.mem_univ, true_and, Finset.mem_insert, List.mem_cons]
theorem not_mem_inn (h : i ∉ s) : i ∉ inn s := by simpa [inn] using h

theorem bigSep_out (h : i ∉ s) (Φ : Fin 27 → sProp M) : bigSep (out s) Φ = iprop(Φ i ∗ bigSep (out (i :: s)) Φ) := by
  rw [out_eq h, bigSep_insert not_mem_out]; rfl
theorem bigSep_inn (h : i ∉ s) (Φ : Fin 27 → sProp M) : bigSep (inn (i :: s)) Φ = iprop(Φ i ∗ bigSep (inn s) Φ) := by
  rw [inn_eq, bigSep_insert (not_mem_inn h)]; rfl
end Sets

theorem owed_cons (c : Dev nD) {s : List (Fin 27)} {i : Fin 27} (h : i ∉ s) :
    owed c s = owed c (i :: s) + tallyAt (rcvCell (tgt i c) i) () (N i) := by
  unfold owed
  rw [out_eq h, Finset.sum_insert not_mem_out]
  rw [add_comm (tallyAt _ _ _), add_assoc, add_assoc, add_comm (tallyAt _ _ _)]

/-! ## Cells by number -/

set_option backward.proofsInPublic true in
/-- The exchange's cells on one device: the barrier's, the exit's, the send cells, the receive cells. -/
def csem (k : Fin 56) : SemLoc sig :=
  if k.val = 0 then .reg barS else if k.val = 1 then .reg exitS
  else if h : k.val < 29 then .dma (snd ⟨k.val - 2, by omega⟩) else .dma (rcv ⟨k.val - 29, by omega⟩)
def kS (i : Fin 27) : Fin 56 := ⟨i.val + 2, by omega⟩
def kR (i : Fin 27) : Fin 56 := ⟨i.val + 29, by omega⟩
theorem csem_kS (i : Fin 27) : csem (kS i) = .dma (snd i) := by revert i; decide
theorem csem_kR (i : Fin 27) : csem (kR i) = .dma (rcv i) := by revert i; decide

variable (X : Dev nD → Blk F) (K : Dev nD × Fin 56 → ℕ)

/-! ## The state -/

/-- The standing facts about transfer `i` of device `c`: the invariants of the cells it touches, and that they are at their
    round. -/
def recs (c : Dev nD) (i : Fin 27) : sProp 𝕄 :=
  iprop(cellInv ER (rd X) (K (c, kS i)) (sndCell c i) ∗ cellInv ER (rd X) (K (c, kR i)) (rcvCell c i)
    ∗ cellInv ER (rd X) (K (tgt i c, kR i)) (rcvCell (tgt i c) i) ∗ reached ER (sndCell c i) 0 ∗ reached ER (rcvCell (tgt i c) i) 0)
instance recs_persistent (c : Dev nD) (i) : BI.Persistent (recs X K c i) := by unfold recs; infer_instance

def allRecs (c : Dev nD) : sProp 𝕄 := bigSep Finset.univ fun i => recs X K c i
instance allRecs_persistent (c : Dev nD) : BI.Persistent (allRecs X K c) := by unfold allRecs; infer_instance

/-- What issuing transfer `i` spends besides its source: the right to pay its two cells, and the rows it fills. -/
def sendRes (c : Dev nD) (i : Fin 27) : sProp 𝕄 :=
  iprop(dutyTok ER (sndCell c i) 0 0 ∗ dutyTok ER (rcvCell (tgt i c) i) 0 0 ∗ grant (F := F) c i)

theorem rows_inb (a n : ℕ) (h : a + n ≤ 2048) : ∀ d : Fin S1x2048x1024.rank, (![0, a, 0] : Fin 3 → ℕ) d + (![1, n, 1024] : Fin 3 → ℕ) d ≤ S1x2048x1024.size d := by
  intro d; match d with
  | ⟨0, _⟩ => exact Nat.le_refl _
  | ⟨1, _⟩ => exact h
  | ⟨2, _⟩ => exact Nat.le_refl _

/-- Where element `j` of transfer `i` of device `c` lands: in the transfer's rows. -/
theorem lo_inb (c : Dev nD) (i : Fin 27) : 16 * lo (tgt i c) i + 16 * len i ≤ 2048 := by revert c i; decide +kernel

/-- The rows of transfer `i` of device `c`, as a rectangle of a block. -/
abbrev rowsR (c : Dev nD) (i : Fin 27) : Rect S1x2048x1024 :=
  Rect.unit (s := S1x2048x1024) ![0, 16 * lo (tgt i c) i, 0] ![1, 16 * len i, 1024] (rows_inb _ _ (lo_inb c i))

/-- What lies in chunk `i` of the send buffer is what device `c`'s block holds on the rows of transfer `i`. -/
def chunkOk (c : Dev nD) (i : Fin 27) (f : Buf (Elt F) (sLoc c)) : Prop :=
  ∀ (x : S8x64x1024.Idx) (y : S1x2048x1024.Idx), (x 0).val = i.val → (y 1).val = 16 * lo (tgt i c) i + (x 1).val → (y 2).val = (x 2).val → f x = X c y
/-- What lies in the direct send buffer is what device `c`'s block holds on the rows of transfer 24. -/
def bdOk (c : Dev nD) (f : Buf (Elt F) (bLoc c)) : Prop :=
  ∀ (x : S160x1024.Idx) (y : S1x2048x1024.Idx), (y 1).val = 16 * lo (tgt 24 c) 24 + (x 0).val → (y 2).val = (x 1).val → f x = X c y

/-- A filled chunk of the send buffer. -/
def staged (c : Dev nD) (i : Fin 27) : sProp 𝕄 :=
  iprop(∃ f : Buf (Elt F) (sLoc c), ⌜chunkOk X c i f⌝ ∗ (sLoc c ↦[chunk i.val]{fullShare} f : sProp 𝕄))
/-- The filled direct send buffer. -/
def stagedBd (c : Dev nD) : sProp 𝕄 :=
  iprop(∃ f : Buf (Elt F) (bLoc c), ⌜bdOk X c f⌝ ∗ (bLoc c ↦[Finset.univ]{fullShare} f : sProp 𝕄))

/-- The source of transfer `i`, ready to be sent. -/
def held (c : Dev nD) (i : Fin 27) : sProp 𝕄 :=
  if i.val < 8 then staged X c i else if i.val = 24 then stagedBd X c else piece X (shr i) c (srcPc i)

def rawSet (g : List (Fin 27)) : Finset (Fin 27) := Finset.univ.filter fun i => (i.val < 8 ∨ i.val = 24) ∧ i ∉ g

def St (c : Dev nD) (s w v g h : List (Fin 27)) (p : List (Fin 31)) : sProp 𝕄 :=
  iprop(allRecs X K c ∗ levAts L lv ∗ (xLoc c ↦{fullShare} (X c : Buf (Elt F) (xLoc c)) : sProp 𝕄)
    ∗ bigSep (out s) (fun i => sendRes (F := F) c i)
    ∗ bigSep (Finset.univ.filter fun i => i ∈ s ∧ i ∉ v) (fun i => cred (tallyAt (sndCell c i) () (N i)))
    ∗ bigSep (out v) (fun i => atPos ER (sndCell c i) 0 ∅ 0)
    ∗ bigSep (inn v) (fun i => iprop(semVal (sndCell c i) 0 ∗ srcPay X c i))
    ∗ bigSep (out w) (fun i => iprop(cred (tallyAt (rcvCell c i) () (N i)) ∗ atPos ER (rcvCell c i) 0 ∅ 0))
    ∗ bigSep (inn w) (fun i => semVal (rcvCell c i) 0)
    ∗ (∃ W, owes (c : Thread nD τ) (owed c s) W)
    ∗ bigSep (rawSet g) (fun i => srcPay X c i)
    ∗ h.foldr (fun i P => iprop(held X c i ∗ P)) iprop(emp)
    ∗ p.foldr (fun j P => iprop(piece X fullShare c j ∗ P)) iprop(emp))

theorem lvl_rcv_lt : ∀ i : Fin 27, lvl (.rcv i) < 5 := by decide

theorem lvl_snd_lt : ∀ i j : Fin 27, lvl (.snd i) < lvl (.rcv j) := by decide

section Steps
variable {X K}
variable {c : Dev nD} {s w v g h : List (Fin 27)} {p : List (Fin 31)} {i : Fin 27}

theorem recs_of (i : Fin 27) : allRecs X K c ⊢ recs X K c i := bigSep_elim (Finset.mem_univ i)

/-! ## Waiting -/

/-- Waiting for the arrival of transfer `i`: what the state becomes, but for where the rows that have come are put. -/
theorem wp_wait_rcv (hi : i ∉ w) (hlv : ∀ j ∈ out s, lvl (.rcv i) < lvl (.rcv j)) {sp : Space} {sh : Shape} {e : EltTy} {sp' : Space} {sh' : Shape} {e' : EltTy}
    {src : Memref sig .tc sp sh e} {dst : Memref sig .tc sp' sh' e'} {hsrc : src.view.WordExact} {hdst : dst.view.WordExact}
    {sS : DmaSem sig} (hS : sS = rcv i) (hN : dst.view.dmaCredit = N i)
    {α : Type} {Q : α → sProp 𝕄} {k : PUnit → Prog (TpuEff nD τ sig (Elt F) Λ₀ .tc) α} :
    St X K c s w v g h p ⊢ iprop((St X K c s (i :: w) v g h p ∗ piece X fullShare c (pc27 i) -∗ WP c (k ⟨⟩) Q)
      -∗ WP c (.op (.waitDma2 sS src dst hsrc hdst) k) Q) := by
  subst hS
  have hmay := mayWait_owed (F := F) c (.dma (rcv i)) s (by rw [role_rcv]; exact hlv) (by rw [role_rcv]; exact lvl_rcv_lt i)
  have hexp : 0 + dst.view.dmaCredit = (rd X).expect (rcvCell c i) 0 := by rw [Nat.zero_add, expect_rcv, hN]
  unfold St
  rw [bigSep_out hi, bigSep_inn hi]
  iintro ⟨#Hr, #Hlev, Hx, H1, H2, H3, H4, ⟨⟨Hc, Hat⟩, H5⟩, H6, ⟨%W, HO⟩, H7, H8, H9⟩ Hk
  ihave #HR := (recs_of i) $$ Hr
  unfold recs
  icases HR with ⟨#HIs, #HIr, #HIt, #HRs, #HRt⟩
  iapply (Rounds.wp_wait_rest_token 𝒱₀ ER (rd X) (c : Thread nD τ) none (κ := K (c, kR i))
      (wpE_waitDma2_eq 𝒱₀ (c : Thread nD τ) none Set.univ) (Set.mem_univ _) () (O := owed c s) (W := W) (R := 0) (m := 0) (T := ∅)
      hexp) $$ [Hc HO Hat]
  · isplitr; · iexact HIr
    isplitl [Hc]; · rw [hN]; iexact Hc
    isplitl [HO]; · iexact HO
    isplitr; · iapply hmay; iexact Hlev
    iexact Hat
  iintro ⟨HO, Hat, -, Hpay⟩
  ihave Hp := (Entails.of_eq (rest_rcv X c i)) $$ Hpay
  imod (Rounds.cell_close ER (rd X) (Set.mem_univ (K (c, kR i))) (fun h => h) (R := 0 + 1) (duties_later X (rcvCell c i))) $$ [Hat] with Hz
  · isplitr; · iexact HIr
    iexact Hat
  iapply Hk
  isplitr [Hp]
  · isplitr; · iexact Hr
    isplitr; · iexact Hlev
    isplitl [Hx]; · iexact Hx
    isplitl [H1]; · iexact H1
    isplitl [H2]; · iexact H2
    isplitl [H3]; · iexact H3
    isplitl [H4]; · iexact H4
    isplitl [H5]; · iexact H5
    isplitl [H6 Hz]
    · isplitl [Hz]; · iexact Hz
      iexact H6
    isplitl [HO]; · iexists _; iexact HO
    isplitl [H7]; · iexact H7
    isplitl [H8]; · iexact H8
    iexact H9
  · iexact Hp

/-- The arrival of a transfer that is not passed on: the piece joins those held. -/
theorem wait_keep (hi : i ∉ w) (hlv : ∀ j ∈ out s, lvl (.rcv i) < lvl (.rcv j)) {sp : Space} {sh : Shape} {e : EltTy} {sp' : Space} {sh' : Shape} {e' : EltTy}
    {src : Memref sig .tc sp sh e} {dst : Memref sig .tc sp' sh' e'} {hsrc : src.view.WordExact} {hdst : dst.view.WordExact}
    {sS : DmaSem sig} (hS : sS = rcv i) (hN : dst.view.dmaCredit = N i)
    {α : Type} {Q : α → sProp 𝕄} {k : PUnit → Prog (TpuEff nD τ sig (Elt F) Λ₀ .tc) α} :
    St X K c s w v g h p ⊢ iprop((St X K c s (i :: w) v g h (pc27 i :: p) -∗ WP c (k ⟨⟩) Q)
      -∗ WP c (.op (.waitDma2 sS src dst hsrc hdst) k) Q) := by
  iintro HSt Hk
  iapply (wp_wait_rcv hi hlv hS hN) $$ HSt
  iintro ⟨HSt, Hp⟩
  iapply Hk
  unfold St
  icases HSt with ⟨H1, H2, H3, H4, H5, H6, H7, H8, H9, H10, H11, H12, H13⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  rw [List.foldr_cons]
  isplitl [Hp]; · iexact Hp
  iexact H13

/-- Rows that go to two neighbours are held by two half shares, -/
theorem piece_split (c : Dev nD) (j : Fin 31) : piece X fullShare c j ⊢ iprop(piece X fullShare.left c j ∗ piece X fullShare.right c j) := by
  unfold piece
  exact (pointsTo_share (PosShare.mem_left_op_right fullShare)).1
/-- which make them whole again. -/
theorem piece_join (c : Dev nD) (j : Fin 31) : iprop(piece X fullShare.left c j ∗ piece X fullShare.right c j) ⊢ piece X fullShare c j := by
  unfold piece
  exact (pointsTo_share (PosShare.mem_left_op_right fullShare)).2

/-- The arrival of rows from x, which go on to both other neighbours: two half shares in hand. -/
theorem wait_split (h8 : i.val < 8) {a b : Fin 27} (ha : a.val = 8 + i.val) (hb : b.val = 16 + i.val)
    (hi : i ∉ w) (hlv : ∀ j ∈ out s, lvl (.rcv i) < lvl (.rcv j)) {sp : Space} {sh : Shape} {e : EltTy} {sp' : Space} {sh' : Shape} {e' : EltTy}
    {src : Memref sig .tc sp sh e} {dst : Memref sig .tc sp' sh' e'} {hsrc : src.view.WordExact} {hdst : dst.view.WordExact}
    {sS : DmaSem sig} (hS : sS = rcv i) (hN : dst.view.dmaCredit = N i)
    {α : Type} {Q : α → sProp 𝕄} {k : PUnit → Prog (TpuEff nD τ sig (Elt F) Λ₀ .tc) α} :
    St X K c s w v g h p ⊢ iprop((St X K c s (i :: w) v g (a :: b :: h) p -∗ WP c (k ⟨⟩) Q)
      -∗ WP c (.op (.waitDma2 sS src dst hsrc hdst) k) Q) := by
  have ea : held X c a = piece X fullShare.left c (pc27 i) := by
    unfold held shr
    rw [if_neg (by omega), if_neg (by omega), if_pos (by omega)]
    congr 1; unfold srcPc; rw [if_pos (by omega)]; exact Fin.ext (by show a.val - 8 = i.val; omega)
  have eb : held X c b = piece X fullShare.right c (pc27 i) := by
    unfold held shr
    rw [if_neg (by omega), if_neg (by omega), if_neg (by omega), if_pos (by omega)]
    congr 1; unfold srcPc; rw [if_neg (by omega), if_pos (by omega)]; exact Fin.ext (by show b.val - 16 = i.val; omega)
  iintro HSt Hk
  iapply (wp_wait_rcv hi hlv hS hN) $$ HSt
  iintro ⟨HSt, Hp⟩
  iapply Hk
  unfold St
  icases HSt with ⟨H1, H2, H3, H4, H5, H6, H7, H8, H9, H10, H11, H12, H13⟩
  ihave Hp2 := (piece_split c (pc27 i)) $$ Hp
  icases Hp2 with ⟨Ha, Hb⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitr [H13]
  · rw [List.foldr_cons, List.foldr_cons, ea, eb]
    isplitl [Ha]; · iexact Ha
    isplitl [Hb]; · iexact Hb
    iexact H12
  iexact H13

theorem creds_send (hs : i ∉ s) (hv : i ∉ v) (Φ : Fin 27 → sProp 𝕄) :
    bigSep (Finset.univ.filter fun j => j ∈ i :: s ∧ j ∉ v) Φ = iprop(Φ i ∗ bigSep (Finset.univ.filter fun j => j ∈ s ∧ j ∉ v) Φ) := by
  rw [show (Finset.univ.filter fun j => j ∈ i :: s ∧ j ∉ v) = insert i (Finset.univ.filter fun j => j ∈ s ∧ j ∉ v) from by
    ext j; simp only [Finset.mem_filter, Finset.mem_univ, true_and, Finset.mem_insert, List.mem_cons]
    constructor
    · rintro ⟨rfl | h, h'⟩
      · exact Or.inl rfl
      · exact Or.inr ⟨h, h'⟩
    · rintro (rfl | ⟨h, h'⟩)
      · exact ⟨Or.inl rfl, hv⟩
      · exact ⟨Or.inr h, h'⟩, bigSep_insert (by simp [hs])]
  rfl
theorem creds_wait (hs : i ∈ s) (hv : i ∉ v) (Φ : Fin 27 → sProp 𝕄) :
    bigSep (Finset.univ.filter fun j => j ∈ s ∧ j ∉ v) Φ = iprop(Φ i ∗ bigSep (Finset.univ.filter fun j => j ∈ s ∧ j ∉ i :: v) Φ) := by
  rw [show (Finset.univ.filter fun j => j ∈ s ∧ j ∉ v) = insert i (Finset.univ.filter fun j => j ∈ s ∧ j ∉ i :: v) from by
    ext j; simp only [Finset.mem_filter, Finset.mem_univ, true_and, Finset.mem_insert, List.mem_cons, not_or]
    constructor
    · rintro ⟨h, h'⟩
      by_cases e : j = i
      · exact Or.inl e
      · exact Or.inr ⟨h, e, h'⟩
    · rintro (rfl | ⟨h, e, h'⟩)
      · exact ⟨hs, hv⟩
      · exact ⟨h, h'⟩, bigSep_insert (by simp)]
  rfl

/-- Waiting for the departure of transfer `i`: its source back. -/
theorem wait_snd (hs : i ∈ s) (hi : i ∉ v) {sp : Space} {sh : Shape} {e : EltTy} {sp' : Space} {sh' : Shape} {e' : EltTy}
    {src : Memref sig .tc sp sh e} {dst : Memref sig .tc sp' sh' e'} {hsrc : src.view.WordExact} {hdst : dst.view.WordExact}
    {sS : DmaSem sig} (hS : sS = snd i) (hN : dst.view.dmaCredit = N i)
    {α : Type} {Q : α → sProp 𝕄} {k : PUnit → Prog (TpuEff nD τ sig (Elt F) Λ₀ .tc) α} :
    St X K c s w v g h p ⊢ iprop((St X K c s w (i :: v) g h p -∗ WP c (k ⟨⟩) Q)
      -∗ WP c (.op (.waitDma2 sS src dst hsrc hdst) k) Q) := by
  subst hS
  unfold St
  rw [bigSep_out hi, bigSep_inn hi, creds_wait hs hi]
  iintro ⟨#Hr, #Hlev, Hx, H1, ⟨Hc, H2⟩, ⟨Hat, H3⟩, H4, H5, H6, ⟨%W, HO⟩, H7, H8, H9⟩ Hk
  ihave #HR := (recs_of i) $$ Hr
  unfold recs
  icases HR with ⟨#HIs, #HIr, #HIt, #HRs, #HRt⟩
  iapply (Rounds.wp_wait_rest_token 𝒱₀ ER (rd X) (c : Thread nD τ) none (κ := K (c, kS i))
      (wpE_waitDma2_eq 𝒱₀ (c : Thread nD τ) none Set.univ) (Set.mem_univ _) () (O := owed c s) (W := W) (R := 0) (m := 0) (T := ∅)
      (by rw [Nat.zero_add, expect_snd, hN])) $$ [Hc HO Hat]
  · isplitr; · iexact HIs
    isplitl [Hc]; · rw [hN]; iexact Hc
    isplitl [HO]; · iexact HO
    isplitr; · iapply (mayWait_owed c (.dma (snd i)) s (by rw [role_snd]; exact fun j _ => lvl_snd_lt i j) (by rw [role_snd]; exact Nat.succ_pos 4)); iexact Hlev
    iexact Hat
  iintro ⟨HO, Hat, -, Hpay⟩
  ihave Hp := (Entails.of_eq (rest_snd X c i)) $$ Hpay
  imod (Rounds.cell_close ER (rd X) (Set.mem_univ (K (c, kS i))) (fun h => h) (R := 0 + 1) (duties_later X (sndCell c i))) $$ [Hat] with Hz
  · isplitr; · iexact HIs
    iexact Hat
  iapply Hk
  isplitr; · iexact Hr
  isplitr; · iexact Hlev
  isplitl [Hx]; · iexact Hx
  isplitl [H1]; · iexact H1
  isplitl [H2]; · iexact H2
  isplitl [H3]; · iexact H3
  isplitl [H4 Hz Hp]
  · isplitl [Hz Hp]
    · isplitl [Hz]; · iexact Hz
      iexact Hp
    iexact H4
  isplitl [H5]; · iexact H5
  isplitl [H6]; · iexact H6
  isplitl [HO]; · iexists _; iexact HO
  isplitl [H7]; · iexact H7
  isplitl [H8]; · iexact H8
  iexact H9

/-! ## Sending -/

/-- Issuing transfer `i`, from any source and to any destination whose points-to's are the transfer's: what is asked of them
    is that the source's gives what is in hand and gets back what the send cell returns, and that the destination's can be
    made of the rows handed over, and once written is the piece promised. -/
theorem send_any (hs : i ∉ s) (hv : i ∉ v) {sp sp' : Space} {sh : Shape} {e : EltTy}
    {src : Memref sig .tc sp sh e} {dst : Memref sig .tc sp' sh e} {hsc : dst.view.ref.isScScratch = false}
    {hsrc : src.view.WordExact} {hdst : dst.view.WordExact} {hsem : DmaTarget.Typed sp (.dma (rcv i)) (.remote (Dev.tc (tgt i c) : Thread nD τ) dst (.dma (snd i)) hsc)}
    (hN : dst.view.dmaCredit = N i) (q : PosShare TreeShare)
    (R : Buf (Elt F) (src.view.loc (c : Thread nD τ)) → Prop)
    (hheld : held X c i ⊢ iprop(∃ f, ⌜R f⌝ ∗ (src.view.loc (c : Thread nD τ) ↦[src.view.set]{q} f : sProp 𝕄)))
    (hgrant : grant (F := F) c i ⊢ iprop(∃ f, (dst.view.loc (tgt i c : Thread nD τ) ↦[dst.view.set]{fullShare} f : sProp 𝕄)))
    (hback : ∀ f, R f → (src.view.loc (c : Thread nD τ) ↦[src.view.set]{q} f : sProp 𝕄) ⊢ srcPay X c i)
    (hland : ∀ f fd, R f → (dst.view.loc (tgt i c : Thread nD τ) ↦[dst.view.set]{fullShare} dst.view.write (Elt F) fd (src.view.read (Elt F) f) Finset.univ : sProp 𝕄)
      ⊢ piece X fullShare (tgt i c) (pc27 i))
    {α : Type} {Q : α → sProp 𝕄} {k : PUnit → Prog (TpuEff nD τ sig (Elt F) Λ₀ .tc) α} :
    St X K c s w v g (i :: h) p ⊢ iprop((St X K c (i :: s) w v g h p -∗ WP c (k ⟨⟩) Q)
      -∗ WP c (.op (.enqueueDma src (.remote (Dev.tc (tgt i c) : Thread nD τ) dst (.dma (snd i)) hsc) (.dma (rcv i)) hsrc hdst hsem) k) Q) := by
  unfold St
  rw [bigSep_out hs, creds_send hs hv, List.foldr_cons]
  iintro ⟨#Hr, #Hlev, Hx, ⟨Hres, H1⟩, H2, H3, H4, H5, H6, ⟨%W, HO⟩, H7, ⟨Hh, H8⟩, H9⟩ Hk
  ihave #HR := (recs_of i) $$ Hr
  unfold recs sendRes
  icases HR with ⟨#HIs, #HIr, #HIt, #HRs, #HRt⟩
  icases Hres with ⟨Hts, Htr, Hg⟩
  ihave Hh' := hheld $$ Hh
  icases Hh' with ⟨%f, %hf, Hsrc⟩
  ihave Hg' := hgrant $$ Hg
  icases Hg' with ⟨%fd, Hdst⟩
  iapply (Rounds.wp_send_pointsTo 𝒱₀ ER (rd X) (c : Thread nD τ) none (κ₁ := K (c, kS i)) (κ₂ := K (tgt i c, kR i))
    (r₁ := 0) (r₂ := 0) (d₁ := 0) (d₂ := 0) (fd := fd)
    (by rw [duties_snd]; exact Finset.mem_singleton_self _) (by rw [duties_rcv]; exact Finset.mem_singleton_self _)
    () () (N i) ((View.amount_dma _ _).trans hN) (amount_snd X c i 0) (amount_rcv X (tgt i c) i 0) (owed c (i :: s)) (owed_cons c hs) (W := W)
    (by rw [payload_snd]; exact hback f hf)
    (by rw [payload_rcv]; exact hland f fd hf)) $$ [Hsrc Hdst HO Hts Htr]
  · isplitr; · iexact HIs
    isplitr; · iexact HIt
    isplitl [Hsrc]; · iexact Hsrc
    isplitl [Hdst]; · iexact Hdst
    isplitl [HO]; · iexact HO
    isplitl [Hts]; · iexact Hts
    isplitr; · iexact HRs
    isplitl [Htr]; · iexact Htr
    iexact HRt
  iintro ⟨Hc, HO⟩
  iapply Hk
  isplitr; · iexact Hr
  isplitr; · iexact Hlev
  isplitl [Hx]; · iexact Hx
  isplitl [H1]; · iexact H1
  isplitl [H2 Hc]
  · isplitl [Hc]; · iexact Hc
    iexact H2
  isplitl [H3]; · iexact H3
  isplitl [H4]; · iexact H4
  isplitl [H5]; · iexact H5
  isplitl [H6]; · iexact H6
  isplitl [HO]; · iexists _; iexact HO
  isplitl [H7]; · iexact H7
  isplitl [H8]; · iexact H8
  iexact H9

/-! ### The three kinds of transfers -/

theorem band_lt (x : S1x2048x1024.Idx) : (x 1).val / 16 < 128 := by have : (x 1).val < 2048 := (x 1).isLt; omega

/-- What a transfer fills, in bands. -/
theorem inP_pc27 (c : Dev nD) (i : Fin 27) (b : ℕ) : inP c (pc27 i) b ↔ lo c i ≤ b ∧ b < lo c i + len i := by
  have hi : (pc27 i).val < 27 := i.isLt
  unfold inP
  rw [dif_pos hi]
  exact Iff.rfl

/-- The rows of transfer `i` on device `c`, as a rectangle's elements. -/
theorem rect_set (c : Dev nD) (i : Fin 27) (inb) :
    (Rect.unit (s := S1x2048x1024) ![0, 16 * lo c i, 0] ![1, 16 * len i, 1024] inb).set = pset c (pc27 i) := by
  ext x
  rw [Rect.mem_set_unit]
  unfold pset
  rw [Finset.mem_filter, inP_pc27]
  have h0 : (x 0).val < 1 := (x 0).isLt
  have h2 : (x 2).val < 1024 := (x 2).isLt
  constructor
  · intro h
    have h1 : 16 * lo c i ≤ (x 1).val ∧ (x 1).val < 16 * lo c i + 16 * len i := h 1
    exact ⟨Finset.mem_univ _, by omega, by omega⟩
  · rintro ⟨-, ha, hb⟩ d
    match d with
    | ⟨0, _⟩ => exact ⟨Nat.zero_le _, by show (x 0).val < 0 + 1; omega⟩
    | ⟨1, _⟩ => exact ⟨by show 16 * lo c i ≤ (x 1).val; omega, by show (x 1).val < 16 * lo c i + 16 * len i; omega⟩
    | ⟨2, _⟩ => exact ⟨Nat.zero_le _, by show (x 2).val < 0 + 1024; omega⟩

theorem pset_src (h8 : 8 ≤ i.val) (h24 : i.val ≠ 24) : pset c (srcPc i) = pset (tgt i c) (pc27 i) :=
  Finset.filter_congr fun x _ => srcPc_band c i ⟨h8, h24⟩ ⟨(x 1).val / 16, band_lt x⟩

theorem dir_ne (h8 : 8 ≤ i.val) (h24 : i.val ≠ 24) : dir i ≠ 0 := by
  unfold dir; rw [if_neg (by omega)]; split <;> decide

/-- What a transfer of rows of the result writes is what the receiver is to hold there. -/
theorem outAt_yz (h8 : 8 ≤ i.val) (h24 : i.val ≠ 24) (x : S1x2048x1024.Idx) (hx : x ∈ pset (tgt i c) (pc27 i)) : outAt X (tgt i c) x = outAt X c x := by
  unfold outAt
  rw [srcDev_yz c i (dir_ne h8 h24) ⟨(x 1).val / 16, band_lt x⟩ (Finset.mem_filter.mp hx).2]

/-- What a transfer along x brings is the sender's block. -/
theorem outAt_x (hd : dir i = 0) (x : S1x2048x1024.Idx) (hx : x ∈ pset (tgt i c) (pc27 i)) : outAt X (tgt i c) x = X c x := by
  unfold outAt
  rw [srcDev_x c i hd ⟨(x 1).val / 16, band_lt x⟩ (Finset.mem_filter.mp hx).2]

variable {n : Dev nD} {o : Fin 3 → ℕ} {size : Fin 3 → ℕ} {inb : ∀ d, o d + size d ≤ S1x2048x1024.size d} {inb' : ∀ d, o d + size d ≤ S1x2048x1024.size d}
  {hsl : ∀ a, (Rect.unit (s := S1x2048x1024) o size inb).stride a = 1} {hsl' : ∀ a, (Rect.unit (s := S1x2048x1024) o size inb').stride a = 1} {sq : Shape}
  {hsq : (Rect.unit (s := S1x2048x1024) o size inb).shape.Squeezes sq} {hsq' : (Rect.unit (s := S1x2048x1024) o size inb').shape.Squeezes sq}
  {sS rS : DmaSem sig}

/-- The view of a rectangle of rows of the result with its leading unit axis dropped: its elements. -/
theorem rows_set (ho : o = ![0, 16 * lo (tgt i c) i, 0]) (hsz : size = ![1, 16 * len i, 1024]) :
    ((oM.slice (Rect.unit (s := S1x2048x1024) o size inb) hsl).squeeze sq hsq).view.set = pset (tgt i c) (pc27 i) := by
  subst ho hsz
  exact (View.set_reshape _ _).trans ((View.set_slice_whole _ _).trans (rect_set _ _ _))

/-- Passing rows of the result on. -/
theorem send_rows (h8 : 8 ≤ i.val) (h24 : i.val ≠ 24) (hs : i ∉ s) (hv : i ∉ v) (hn : n = tgt i c)
    (ho : o = ![0, 16 * lo (tgt i c) i, 0]) (hsz : size = ![1, 16 * len i, 1024]) (hS : sS = snd i) (hR : rS = rcv i)
    (hN : (cc0_stg2_0 : Ref sig .tc).dmaCredit sq .bf16 = N i)
    {hsc : ((oM.slice (Rect.unit (s := S1x2048x1024) o size inb) hsl).squeeze sq hsq).view.ref.isScScratch = false}
    {hsrc : ((oM.slice (Rect.unit (s := S1x2048x1024) o size inb') hsl').squeeze sq hsq').view.WordExact}
    {hdst : ((oM.slice (Rect.unit (s := S1x2048x1024) o size inb) hsl).squeeze sq hsq).view.WordExact}
    {hsem : DmaTarget.Typed .vmem (.dma rS) (.remote (Dev.tc n : Thread nD τ) ((oM.slice (Rect.unit (s := S1x2048x1024) o size inb) hsl).squeeze sq hsq) (.dma sS) hsc)}
    {α : Type} {Q : α → sProp 𝕄} {k : PUnit → Prog (TpuEff nD τ sig (Elt F) Λ₀ .tc) α} :
    St X K c s w v g (i :: h) p ⊢ iprop((St X K c (i :: s) w v g h p -∗ WP c (k ⟨⟩) Q)
      -∗ WP c (.op (.enqueueDma ((oM.slice (Rect.unit (s := S1x2048x1024) o size inb') hsl').squeeze sq hsq')
        (.remote (Dev.tc n : Thread nD τ) ((oM.slice (Rect.unit (s := S1x2048x1024) o size inb) hsl).squeeze sq hsq) (.dma sS) hsc) (.dma rS) hsrc hdst hsem) k) Q) := by
  subst hn hS hR
  have eset := rows_set (c := c) (i := i) (inb := inb) (hsl := hsl) (hsq := hsq) ho hsz
  refine send_any (X := X) (K := K) hs hv hN (shr i) (fun f => f = outAt X c) ?_ ?_ ?_ ?_
  · unfold held
    rw [if_neg (by omega), if_neg h24]
    unfold piece
    rw [pset_src h8 h24, ← eset]
    iintro H
    iexists _
    isplitr; · ipureintro; rfl
    iexact H
  · unfold grant someOut
    rw [← eset]
  · rintro f rfl
    unfold srcPay
    rw [if_neg (by omega), if_neg h24]
    unfold piece
    rw [pset_src h8 h24, ← eset]
  · rintro f fd rfl
    unfold piece
    rw [← eset]
    refine Entails.of_eq (pointsTo_congr fun x hx => ?_)
    have hx' := hx
    rw [eset] at hx'
    rw [outAt_yz h8 h24 x hx']
    obtain ⟨j, -, rfl⟩ := Finset.mem_map.mp hx
    exact (View.write_emb_of_mem _ _ (Finset.mem_univ j))

/-- A chunk of the send buffer, as a rectangle's elements. -/
theorem chunk_set (r : ℕ) (inb) : (Rect.unit (s := S8x64x1024) ![r, 0, 0] S1x64x1024.size inb).set = chunk r := by
  ext x
  rw [Rect.mem_set_unit]
  unfold chunk
  rw [Finset.mem_filter]
  have h1 : (x 1).val < 64 := (x 1).isLt
  have h2 : (x 2).val < 1024 := (x 2).isLt
  constructor
  · intro h
    have h0 : r ≤ (x 0).val ∧ (x 0).val < r + 1 := h 0
    exact ⟨Finset.mem_univ _, by omega⟩
  · rintro ⟨-, ha⟩ d
    match d with
    | ⟨0, _⟩ => exact ⟨by show r ≤ (x 0).val; omega, by show (x 0).val < r + 1; omega⟩
    | ⟨1, _⟩ => exact ⟨Nat.zero_le _, by show (x 1).val < 0 + 64; omega⟩
    | ⟨2, _⟩ => exact ⟨Nat.zero_le _, by show (x 2).val < 0 + 1024; omega⟩

/-- Dropping the leading unit axis keeps the other coordinates. -/
theorem drop_unit {m : ℕ} (hn : (⟨2, ![m, 1024]⟩ : Shape).numel = (⟨3, ![1, m, 1024]⟩ : Shape).numel) (j : (⟨2, ![m, 1024]⟩ : Shape).Idx) :
    (Shape.reshapeEquiv hn j 1).val = (j 0).val ∧ (Shape.reshapeEquiv hn j 2).val = (j 1).val := by
  have e := Shape.reshapeEquiv_cons_one (d := ![m, 1024]) hn j
  rw [e]
  exact ⟨rfl, rfl⟩

/-- Sending a filled chunk of the send buffer. -/
theorem send_chunk (h8 : i.val < 8) (hs : i ∉ s) (hv : i ∉ v) (hn : n = tgt i c) {o : Fin 3 → ℕ} {o' : Fin 3 → ℕ}
    {inb : ∀ d, o d + S1x64x1024.size d ≤ S1x2048x1024.size d} {inb' : ∀ d, o' d + S1x64x1024.size d ≤ S8x64x1024.size d}
    (ho : o = ![0, 16 * lo (tgt i c) i, 0]) (ho' : o' = ![i.val, 0, 0]) (hS : sS = snd i) (hR : rS = rcv i)
    {hsl : ∀ a, (Rect.unit (s := S1x2048x1024) o S1x64x1024.size inb).stride a = 1}
    {hsl' : ∀ a, (Rect.unit (s := S8x64x1024) o' S1x64x1024.size inb').stride a = 1} {hsq hsq' : S1x64x1024.Squeezes S64x1024}
    {hsc : ((oM.slice (Rect.unit (s := S1x2048x1024) o S1x64x1024.size inb) hsl).squeeze S64x1024 hsq).view.ref.isScScratch = false}
    {hsrc : ((sM.slice (Rect.unit (s := S8x64x1024) o' S1x64x1024.size inb') hsl').squeeze S64x1024 hsq').view.WordExact}
    {hdst : ((oM.slice (Rect.unit (s := S1x2048x1024) o S1x64x1024.size inb) hsl).squeeze S64x1024 hsq).view.WordExact}
    {hsem : DmaTarget.Typed .vmem (.dma rS) (.remote (Dev.tc n : Thread nD τ) ((oM.slice (Rect.unit (s := S1x2048x1024) o S1x64x1024.size inb) hsl).squeeze S64x1024 hsq) (.dma sS) hsc)}
    {α : Type} {Q : α → sProp 𝕄} {k : PUnit → Prog (TpuEff nD τ sig (Elt F) Λ₀ .tc) α} :
    St X K c s w v g (i :: h) p ⊢ iprop((St X K c (i :: s) w v g h p -∗ WP c (k ⟨⟩) Q)
      -∗ WP c (.op (.enqueueDma ((sM.slice (Rect.unit (s := S8x64x1024) o' S1x64x1024.size inb') hsl').squeeze S64x1024 hsq')
        (.remote (Dev.tc n : Thread nD τ) ((oM.slice (Rect.unit (s := S1x2048x1024) o S1x64x1024.size inb) hsl).squeeze S64x1024 hsq) (.dma sS) hsc) (.dma rS) hsrc hdst hsem) k) Q) := by
  have hl : len i = 4 := by unfold len; rw [if_pos (by omega)]
  have hd : dir i = 0 := by unfold dir; rw [if_pos (by omega)]
  have eset := rows_set (c := c) (i := i) (inb := inb) (hsl := hsl) (hsq := hsq) ho (by rw [hl])
  subst hn hS hR ho ho'
  have ecset : ((sM.slice (Rect.unit (s := S8x64x1024) ![i.val, 0, 0] S1x64x1024.size inb') hsl').squeeze S64x1024 hsq').view.set = chunk i.val :=
    (View.set_reshape _ _).trans ((View.set_slice_whole _ _).trans (chunk_set _ _))
  refine send_any (X := X) (K := K) hs hv (by unfold N; rw [if_pos (by omega)]) fullShare
    (chunkOk X c i) ?_ ?_ ?_ ?_
  · unfold held
    rw [if_pos h8]
    unfold staged
    rw [ecset]
  · unfold grant someOut
    rw [← eset]
  · intro f hf
    unfold srcPay someChunk
    rw [if_pos h8, ← ecset]
    iintro H
    iexists f
    iexact H
  · intro f fd hf
    unfold piece
    rw [← eset]
    refine Entails.of_eq (pointsTo_congr fun x hx => ?_)
    have hx' := hx
    rw [eset] at hx'
    rw [outAt_x hd x hx']
    obtain ⟨j, -, rfl⟩ := Finset.mem_map.mp hx
    refine (View.write_emb_of_mem _ _ (Finset.mem_univ j)).trans ?_
    obtain ⟨e1, e2⟩ := drop_unit (m := 64) hsq.numel_eq j
    have e0 : (Shape.reshapeEquiv hsq.numel_eq j 0).val < 1 := (Shape.reshapeEquiv hsq.numel_eq j 0).isLt
    refine hf _ _ ?_ ?_ ?_
    · show i.val + 1 * (Shape.reshapeEquiv hsq.numel_eq j 0).val = i.val; omega
    · show 16 * lo (tgt i c) i + 1 * (Shape.reshapeEquiv hsq.numel_eq j 1).val = 16 * lo (tgt i c) i + (0 + 1 * (Shape.reshapeEquiv hsq.numel_eq j 1).val); omega
    · rfl

/-- Sending the filled direct send buffer. -/
theorem send_bd (hs : (24 : Fin 27) ∉ s) (hv : (24 : Fin 27) ∉ v) (hn : n = tgt 24 c) {o : Fin 3 → ℕ}
    {inb : ∀ d, o d + S1x160x1024.size d ≤ S1x2048x1024.size d}
    (ho : o = ![0, 16 * lo (tgt 24 c) 24, 0]) (hS : sS = snd 24) (hR : rS = rcv 24)
    {hsl : ∀ a, (Rect.unit (s := S1x2048x1024) o S1x160x1024.size inb).stride a = 1} {hsq : S1x160x1024.Squeezes S160x1024}
    {hsc : ((oM.slice (Rect.unit (s := S1x2048x1024) o S1x160x1024.size inb) hsl).squeeze S160x1024 hsq).view.ref.isScScratch = false}
    {hsrc : bM.view.WordExact}
    {hdst : ((oM.slice (Rect.unit (s := S1x2048x1024) o S1x160x1024.size inb) hsl).squeeze S160x1024 hsq).view.WordExact}
    {hsem : DmaTarget.Typed .vmem (.dma rS) (.remote (Dev.tc n : Thread nD τ) ((oM.slice (Rect.unit (s := S1x2048x1024) o S1x160x1024.size inb) hsl).squeeze S160x1024 hsq) (.dma sS) hsc)}
    {α : Type} {Q : α → sProp 𝕄} {k : PUnit → Prog (TpuEff nD τ sig (Elt F) Λ₀ .tc) α} :
    St X K c s w v g (24 :: h) p ⊢ iprop((St X K c (24 :: s) w v g h p -∗ WP c (k ⟨⟩) Q)
      -∗ WP c (.op (.enqueueDma bM
        (.remote (Dev.tc n : Thread nD τ) ((oM.slice (Rect.unit (s := S1x2048x1024) o S1x160x1024.size inb) hsl).squeeze S160x1024 hsq) (.dma sS) hsc) (.dma rS) hsrc hdst hsem) k) Q) := by
  have eset := rows_set (c := c) (i := 24) (inb := inb) (hsl := hsl) (hsq := hsq) ho (by decide)
  subst hn hS hR ho
  have ebset : (bM : Memref sig .tc .vmem S160x1024 .bf16).view.set = (Finset.univ : Finset S160x1024.Idx) := View.set_whole _
  refine send_any (X := X) (K := K) hs hv rfl fullShare
    (bdOk X c) ?_ ?_ ?_ ?_
  · unfold held
    rw [if_neg (by decide), if_pos (by decide)]
    unfold stagedBd
    rw [ebset]
  · unfold grant someOut
    rw [← eset]
  · intro f hf
    unfold srcPay someBd
    rw [if_neg (by decide), if_pos (by decide), ebset]
    iintro H
    iexists f
    iexact H
  · intro f fd hf
    unfold piece
    rw [← eset]
    refine Entails.of_eq (pointsTo_congr fun x hx => ?_)
    have hx' := hx
    rw [eset] at hx'
    rw [outAt_x (by decide) x hx']
    obtain ⟨j, -, rfl⟩ := Finset.mem_map.mp hx
    refine (View.write_emb_of_mem _ _ (Finset.mem_univ j)).trans ?_
    obtain ⟨e1, e2⟩ := drop_unit (m := 160) hsq.numel_eq j
    refine hf _ _ ?_ ?_
    · show 16 * lo (tgt 24 c) 24 + 1 * (Shape.reshapeEquiv hsq.numel_eq j 1).val = 16 * lo (tgt 24 c) 24 + (j 0).val; omega
    · show 0 + 1 * (Shape.reshapeEquiv hsq.numel_eq j 2).val = (j 1).val; omega

end Steps

end Cert.KernelIdeal.Swap

end
-- ==== Proof.StageI.lean ====
/-
  The rest of the exchange's steps: filling the send buffers, and telling the rows held in hand in another way (the rows the
  last two transfers pass on are cut out of what came from two neighbours).
-/
module

public import proofs.«01_k».proof.Proof.StepsI
public import Idealize.ShloMosaic.Lib.Pipeline.Value

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Fin 56 → ℕ}
variable {c : Dev nD} {s w v g h : List (Fin 27)} {p : List (Fin 31)} {i : Fin 27}

/-! ## Loads -/

/-- Loading rows of the own block reads them off it and changes nothing. -/
theorem load_x {r : Rect S1x2048x1024} {hl : xM.view.LoadsAt r.toLoadRect} {α : Type} {Q : α → sProp 𝕄}
    {k : (r.shape.Idx → Elt F .bf16) → Prog (TpuEff nD τ sig (Elt F) Λ₀ .tc) α} :
    St X K c s w v g h p ⊢ iprop((St X K c s w v g h p -∗ WP c (k ((xM.access r).read (Elt F) (X c))) Q)
      -∗ WP c (.op (.load xM r.toLoadRect hl) k) Q) := by
  unfold St
  iintro ⟨Hr, Hlev, Hx, H⟩ Hk
  iapply (wp_load_rect 𝒱₀ (c : Thread nD τ) none Set.univ (m := xM) (r := r) (Finset.subset_univ _)) $$ Hx
  iintro Hx
  iapply Hk
  isplitl [Hr]; · iexact Hr
  isplitl [Hlev]; · iexact Hlev
  isplitl [Hx]; · iexact Hx
  iexact H

theorem raw_eq (hi : i.val < 8 ∨ i.val = 24) (hg : i ∉ g) (Φ : Fin 27 → sProp 𝕄) :
    bigSep (rawSet g) Φ = iprop(Φ i ∗ bigSep (rawSet (i :: g)) Φ) := by
  have e : rawSet g = insert i (rawSet (i :: g)) := by
    ext j; simp only [rawSet, Finset.mem_filter, Finset.mem_univ, true_and, Finset.mem_insert, List.mem_cons, not_or]
    constructor
    · rintro ⟨h, h'⟩
      by_cases ej : j = i
      · exact Or.inl ej
      · exact Or.inr ⟨h, ej, h'⟩
    · rintro (rfl | ⟨h, -, h'⟩)
      · exact ⟨hi, hg⟩
      · exact ⟨h, h'⟩
  rw [e, bigSep_insert (by simp [rawSet])]; rfl

/-- The view of a chunk of the send buffer. -/
theorem chunk_view {o : Fin 3 → ℕ} {inb : ∀ d, o d + S1x64x1024.size d ≤ S8x64x1024.size d} (ho : o = ![i.val, 0, 0]) :
    ((sM.access (Rect.unit (s := S8x64x1024) o S1x64x1024.size inb)).set) = chunk i.val := by
  subst ho
  exact (View.set_slice_whole _ _).trans (chunk_set _ _)

/-- Loading a chunk of the send buffer that is not filled yet: some value comes back, and nothing changes. -/
theorem load_chunk (h8 : i.val < 8) (hg : i ∉ g) {o : Fin 3 → ℕ} {inb : ∀ d, o d + S1x64x1024.size d ≤ S8x64x1024.size d} (ho : o = ![i.val, 0, 0])
    {hl : sM.view.LoadsAt (Rect.unit (s := S8x64x1024) o S1x64x1024.size inb).toLoadRect} {α : Type} {Q : α → sProp 𝕄}
    {k : (S1x64x1024.Idx → Elt F .bf16) → Prog (TpuEff nD τ sig (Elt F) Λ₀ .tc) α} :
    St X K c s w v g h p ⊢ iprop((∀ y, St X K c s w v g h p -∗ WP c (k y) Q)
      -∗ WP c (.op (.load sM (Rect.unit (s := S8x64x1024) o S1x64x1024.size inb).toLoadRect hl) k) Q) := by
  unfold St
  rw [raw_eq (Or.inl h8) hg, show srcPay X c i = someChunk c i.val from if_pos h8]
  unfold someChunk
  iintro ⟨H1, H2, H3, H4, H5, H6, H7, H8, H9, H10, ⟨⟨%f, Hf⟩, H11⟩, H12⟩ Hk
  iapply (wp_load_rect 𝒱₀ (c : Thread nD τ) none Set.univ (m := sM) (r := Rect.unit (s := S8x64x1024) o S1x64x1024.size inb)
    (S := chunk i.val) (le_of_eq (chunk_view ho))) $$ Hf
  iintro Hf
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hf H11]
  · isplitl [Hf]; · iexists f; iexact Hf
    iexact H11
  iexact H12

/-- Loading the direct send buffer before it is filled: some value comes back, and nothing changes. -/
theorem load_bd (hg : (24 : Fin 27) ∉ g) {r : Rect S160x1024}
    {hl : bM.view.LoadsAt r.toLoadRect} {α : Type} {Q : α → sProp 𝕄}
    {k : (r.shape.Idx → Elt F .bf16) → Prog (TpuEff nD τ sig (Elt F) Λ₀ .tc) α} :
    St X K c s w v g h p ⊢ iprop((∀ y, St X K c s w v g h p -∗ WP c (k y) Q)
      -∗ WP c (.op (.load bM r.toLoadRect hl) k) Q) := by
  unfold St
  rw [raw_eq (i := 24) (Or.inr rfl) hg, show srcPay X c 24 = someBd c from rfl]
  unfold someBd
  iintro ⟨H1, H2, H3, H4, H5, H6, H7, H8, H9, H10, ⟨⟨%f, Hf⟩, H11⟩, H12⟩ Hk
  iapply (wp_load_rect 𝒱₀ (c : Thread nD τ) none Set.univ (m := bM) (r := r)
    (S := Finset.univ) (Finset.subset_univ _)) $$ Hf
  iintro Hf
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hf H11]
  · isplitl [Hf]; · iexists f; iexact Hf
    iexact H11
  iexact H12

/-! ## Stores -/

/-- A value of a chunk's shape is what device `c`'s block holds on the rows of transfer `i`. -/
def valOk (X : Dev nD → Blk F) (c : Dev nD) (i : Fin 27) (y : S1x64x1024.Idx → Elt F .bf16) : Prop :=
  ∀ (a : S1x64x1024.Idx) (b : S1x2048x1024.Idx), (b 1).val = 16 * lo (tgt i c) i + (a 1).val → (b 2).val = (a 2).val → y a = X c b

/-- Device `c`'s block on the rows of transfer `i`, as a value for every chunk of the send buffer. -/
def rowVal (X : Dev nD → Blk F) (c : Dev nD) (i : Fin 27) : S8x64x1024.Idx → Elt F .bf16 := fun x =>
  X c fun d => match d with
    | ⟨0, _⟩ => (⟨0, Nat.one_pos⟩ : Fin 1)
    | ⟨1, _⟩ => (⟨(16 * lo (tgt i c) i + (x 1).val) % 2048, Nat.mod_lt _ (by decide)⟩ : Fin 2048)
    | ⟨2, _⟩ => (x 2 : Fin 1024)

theorem rowVal_ok : chunkOk X c i (rowVal X c i) := by
  intro x b h0 h1 h2
  refine congrArg (X c) (funext fun d => Fin.ext ?_)
  have hb : (b 1).val < 2048 := (b 1).isLt
  match d with
  | ⟨0, _⟩ => exact (Nat.lt_one_iff.mp (show (b 0).val < 1 from (b 0).isLt)).symm
  | ⟨1, _⟩ => show (16 * lo (tgt i c) i + (x 1).val) % 2048 = (b 1).val; omega
  | ⟨2, _⟩ => exact h2.symm

/-- Filling a chunk of the send buffer: its transfer's source is ready in hand. -/
theorem store_chunk (h8 : i.val < 8) (hg : i ∉ g) {o : Fin 3 → ℕ} {inb : ∀ d, o d + S1x64x1024.size d ≤ S8x64x1024.size d} (ho : o = ![i.val, 0, 0])
    {y : S1x64x1024.Idx → Elt F .bf16} (hy : valOk X c i y)
    {hx : (sM.access (Rect.unit (s := S8x64x1024) o S1x64x1024.size inb)).Stores Finset.univ}
    {hm : (Finset.univ : Finset S1x64x1024.Idx) = Finset.univ ∨ ∀ a, (Rect.unit (s := S8x64x1024) o S1x64x1024.size inb).stride a = 1} {α : Type} {Q : α → sProp 𝕄}
    {k : PUnit → Prog (TpuEff nD τ sig (Elt F) Λ₀ .tc) α} :
    St X K c s w v g h p ⊢ iprop((St X K c s w v (i :: g) (i :: h) p -∗ WP c (k ⟨⟩) Q)
      -∗ WP c (.op (.store sM (Rect.unit (s := S8x64x1024) o S1x64x1024.size inb) y Finset.univ hx hm) k) Q) := by
  unfold St
  rw [raw_eq (Or.inl h8) hg, show srcPay X c i = someChunk c i.val from if_pos h8, List.foldr_cons]
  unfold someChunk
  iintro ⟨H1, H2, H3, H4, H5, H6, H7, H8, H9, H10, ⟨⟨%f, Hf⟩, H11⟩, H12, H13⟩ Hk
  iapply (wp_store 𝒱₀ (c : Thread nD τ) none Set.univ (m := sM) (r := Rect.unit (s := S8x64x1024) o S1x64x1024.size inb)
    (S := chunk i.val) (Mk := Finset.univ) (le_of_eq (chunk_view ho))) $$ Hf
  iintro Hf
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hf H12]
  · isplitl [Hf]
    · unfold held
      rw [if_pos h8]
      unfold staged
      have e : (sLoc c ↦[chunk i.val]{fullShare} ((sM.access (Rect.unit (s := S8x64x1024) o S1x64x1024.size inb)).write (Elt F) f y Finset.univ) : sProp 𝕄)
          ⊢ iprop(∃ f : Buf (Elt F) (sLoc c), ⌜chunkOk X c i f⌝ ∗ (sLoc c ↦[chunk i.val]{fullShare} f : sProp 𝕄)) := by
        refine (Entails.of_eq (pointsTo_congr (ℓ := sLoc c) (g := rowVal X c i) fun x hx' => ?_)).trans ?_
        · rw [← chunk_view (inb := inb) ho] at hx'
          obtain ⟨j, -, rfl⟩ := Finset.mem_map.mp hx'
          subst ho
          refine (View.write_emb_of_mem _ _ (Finset.mem_univ j)).trans ?_
          refine hy j _ ?_ ?_
          · have h1 : (j 1).val < 64 := (j 1).isLt
            have h2 := lo_inb c i
            have h3 : len i = 4 := by unfold len; rw [if_pos (by omega)]
            show (16 * lo (tgt i c) i + (0 + 1 * (j 1).val)) % 2048 = 16 * lo (tgt i c) i + (j 1).val; omega
          · show 0 + 1 * (j 2).val = (j 2).val; omega
        · iintro H
          iexists _
          isplitr
          · ipureintro
            exact rowVal_ok
          iexact H
      iapply e
      iexact Hf
    iexact H12
  iexact H13

/-- Filling the direct send buffer: its transfer's source is ready in hand. -/
theorem store_bd (hg : (24 : Fin 27) ∉ g) {o : Fin 2 → ℕ} {inb : ∀ d, o d + S160x1024.size d ≤ S160x1024.size d} (ho : o = ![0, 0])
    {y : S160x1024.Idx → Elt F .bf16} (hy : bdOk X c y)
    {hx : (bM.access (Rect.unit (s := S160x1024) o S160x1024.size inb)).Stores Finset.univ}
    {hm : (Finset.univ : Finset S160x1024.Idx) = Finset.univ ∨ ∀ a, (Rect.unit (s := S160x1024) o S160x1024.size inb).stride a = 1} {α : Type} {Q : α → sProp 𝕄}
    {k : PUnit → Prog (TpuEff nD τ sig (Elt F) Λ₀ .tc) α} :
    St X K c s w v g h p ⊢ iprop((St X K c s w v (24 :: g) (24 :: h) p -∗ WP c (k ⟨⟩) Q)
      -∗ WP c (.op (.store bM (Rect.unit (s := S160x1024) o S160x1024.size inb) y Finset.univ hx hm) k) Q) := by
  unfold St
  rw [raw_eq (i := 24) (Or.inr rfl) hg, show srcPay X c 24 = someBd c from rfl, List.foldr_cons, show held X c 24 = stagedBd X c from rfl]
  unfold someBd stagedBd
  have hz : o = fun _ => 0 := by subst ho; decide
  iintro ⟨H1, H2, H3, H4, H5, H6, H7, H8, H9, H10, ⟨⟨%f, Hf⟩, H11⟩, H12, H13⟩ Hk
  iapply (wp_store 𝒱₀ (c : Thread nD τ) none Set.univ (m := bM) (r := Rect.unit (s := S160x1024) o S160x1024.size inb)
    (S := Finset.univ) (Mk := Finset.univ) (Finset.subset_univ _)) $$ Hf
  have ew : bdOk X c ((bM.access (Rect.unit (s := S160x1024) o S160x1024.size inb)).write (Elt F) f y Finset.univ) := by
    have e := Memref.write_access_unit_zero_univ (Elt F) cc0_scratch1 hz inb f y
    exact e.symm ▸ hy
  iintro Hf
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hf H12]
  · isplitl [Hf]
    · iexists _
      isplitr; · ipureintro; exact ew
      iexact Hf
    iexact H12
  iexact H13

/-- Rows read off the own block. -/
theorem val_of {o : Fin 3 → ℕ} {inb : ∀ d, o d + S1x64x1024.size d ≤ S1x2048x1024.size d} (ho : o = ![0, 16 * lo (tgt i c) i, 0]) :
    valOk X c i ((xM.access (Rect.unit (s := S1x2048x1024) o S1x64x1024.size inb)).read (Elt F) (X c)) := by
  subst ho
  intro a b h1 h2
  refine (View.read_apply _ _).trans (congrArg (X c) (funext fun d => Fin.ext ?_))
  match d with
  | ⟨0, _⟩ =>
    have ha : (a 0).val < 1 := (a 0).isLt
    have hb : (b 0).val < 1 := (b 0).isLt
    show 0 + 1 * (a 0).val = (b 0).val; omega
  | ⟨1, _⟩ => show 16 * lo (tgt i c) i + 1 * (a 1).val = (b 1).val; omega
  | ⟨2, _⟩ => show 0 + 1 * (a 2).val = (b 2).val; omega

/-- The direct transfer's rows read off the own block, their leading unit axis dropped. -/
theorem bd_of {o : Fin 3 → ℕ} {inb : ∀ d, o d + S1x160x1024.size d ≤ S1x2048x1024.size d} (ho : o = ![0, 16 * lo (tgt 24 c) 24, 0]) :
    bdOk X c (k0_pay11 ((xM.access (Rect.unit (s := S1x2048x1024) o S1x160x1024.size inb)).read (Elt F) (X c))) := by
  subst ho
  intro a b h1 h2
  unfold k0_pay11
  refine (congrFun (shapeCast_self _ _) a).trans ?_
  refine (shapeCast_dropUnit_apply ![160, 1024] _ _ a).trans ?_
  refine (View.read_apply _ _).trans (congrArg (X c) (funext fun d => Fin.ext ?_))
  match d with
  | ⟨0, _⟩ =>
    have hb : (b 0).val < 1 := (b 0).isLt
    show 0 + 1 * 0 = (b 0).val; omega
  | ⟨1, _⟩ => show 16 * lo (tgt 24 c) 24 + 1 * (a 0).val = (b 1).val; omega
  | ⟨2, _⟩ => show 0 + 1 * (a 1).val = (b 2).val; omega

/-- Dropping and restoring the unit axis is nothing. -/
theorem pay2_eq (y : Vec F S1x64x1024 .bf16) : k0_pay2 y = y := by unfold k0_pay2; exact shapeCast_shapeCast _ _ _
theorem pay4_eq (y : Vec F S1x64x1024 .bf16) : k0_pay4 (k0_pay3 y) = y := by unfold k0_pay4 k0_pay3; exact shapeCast_shapeCast _ _ _
theorem pay5_eq (y : Vec F S1x64x1024 .bf16) : k0_pay5 y = y := by unfold k0_pay5; exact shapeCast_shapeCast _ _ _
theorem pay6_eq (y : Vec F S1x64x1024 .bf16) : k0_pay6 y = y := by unfold k0_pay6; exact shapeCast_shapeCast _ _ _
theorem pay7_eq (y : Vec F S1x64x1024 .bf16) : k0_pay7 y = y := by unfold k0_pay7; exact shapeCast_shapeCast _ _ _
theorem pay8_eq (y : Vec F S1x64x1024 .bf16) : k0_pay8 y = y := by unfold k0_pay8; exact shapeCast_shapeCast _ _ _
theorem pay9_eq (y : Vec F S1x64x1024 .bf16) : k0_pay9 y = y := by unfold k0_pay9; exact shapeCast_shapeCast _ _ _
theorem pay10_eq (y : Vec F S1x64x1024 .bf16) : k0_pay10 y = y := by unfold k0_pay10; exact shapeCast_shapeCast _ _ _

/-! ## Telling the rows held in another way -/

/-- Two pieces with no band in common. -/
def Apart (c : Dev nD) (i j : Fin 31) : Prop := ∀ b : Fin 128, ¬ (inP c i b ∧ inP c j b)
instance (c : Dev nD) (i j : Fin 31) : Decidable (Apart c i j) := by unfold Apart; infer_instance

/-- The rows of the pieces of a list. -/
def rowsOf (c : Dev nD) : List (Fin 31) → Finset S1x2048x1024.Idx
  | [] => ∅
  | j :: l => pset c j ∪ rowsOf c l

theorem mem_rowsOf (l : List (Fin 31)) (x : S1x2048x1024.Idx) : x ∈ rowsOf c l ↔ ∃ j ∈ l, inP c j ((x 1).val / 16) := by
  induction l with
  | nil => simp [rowsOf]
  | cons j l ih =>
    show x ∈ pset c j ∪ rowsOf c l ↔ _
    rw [Finset.mem_union, ih, List.exists_mem_cons_iff]
    unfold pset
    rw [Finset.mem_filter]
    simp only [Finset.mem_univ, true_and]

/-- Pieces apart from one another, held one by one, are their rows held at once. -/
theorem pieces_eq (l : List (Fin 31)) (hl : l.Pairwise (Apart c)) :
    l.foldr (fun j P => iprop(piece X fullShare c j ∗ P)) iprop(emp)
      = (oLoc c ↦[rowsOf c l]{fullShare} (outAt X c : Buf (Elt F) (oLoc c)) : sProp 𝕄) := by
  induction l with
  | nil => exact pointsTo_empty.symm
  | cons j l ih =>
    rw [List.foldr_cons, ih (List.Pairwise.of_cons hl)]
    unfold piece
    have hd : Disjoint (pset c j) (rowsOf c l) := by
      rw [Finset.disjoint_left]
      intro x hx hx'
      obtain ⟨j', hj', hb⟩ := (mem_rowsOf l x).mp hx'
      exact (List.pairwise_cons.mp hl).1 j' hj' ⟨(x 1).val / 16, band_lt x⟩ ⟨(Finset.mem_filter.mp hx).2, hb⟩
    exact (Entails.antisymm (pointsTo_union hd).1 (pointsTo_union hd).2).symm

/-- Two such lists with the same bands hold the same. -/
theorem pieces_congr (A B : List (Fin 31)) (hA : A.Pairwise (Apart c)) (hB : B.Pairwise (Apart c))
    (hAB : ∀ b : Fin 128, (∃ j ∈ A, inP c j b) ↔ ∃ j ∈ B, inP c j b) :
    A.foldr (fun j P => iprop(piece X fullShare c j ∗ P)) iprop(emp) = B.foldr (fun j P => iprop(piece X fullShare c j ∗ P)) iprop(emp) := by
  rw [pieces_eq A hA, pieces_eq B hB]
  congr 1
  ext x
  rw [mem_rowsOf, mem_rowsOf]
  exact hAB ⟨(x 1).val / 16, band_lt x⟩

/-- The rows of transfer 25, cut out of what came from the z neighbour; -/
theorem cut25 : [18, 17, 16].foldr (fun j P => iprop(piece X fullShare c j ∗ P)) iprop(emp)
    = [29, 27].foldr (fun j P => iprop(piece X fullShare c j ∗ P)) iprop(emp) := by
  refine pieces_congr _ _ ?_ ?_ ?_ <;> revert c <;> decide +kernel
/-- those of transfer 26, cut out of what came from the y neighbour. -/
theorem cut26 : [13, 12, 11, 10, 9, 8, 27].foldr (fun j P => iprop(piece X fullShare c j ∗ P)) iprop(emp)
    = [30, 28, 9, 8, 27].foldr (fun j P => iprop(piece X fullShare c j ∗ P)) iprop(emp) := by
  refine pieces_congr _ _ ?_ ?_ ?_ <;> revert c <;> decide +kernel

theorem held25 : held X c 25 = piece X fullShare c 29 := by
  unfold held; rw [if_neg (by decide), if_neg (by decide)]; rfl
theorem held26 : held X c 26 = piece X fullShare c 30 := by
  unfold held; rw [if_neg (by decide), if_neg (by decide)]; rfl

/-- Those rows in hand. -/
theorem take25 : St X K c s w v g h [18, 17, 16] ⊢ St X K c s w v g (25 :: h) [27] := by
  unfold St
  rw [cut25]
  iintro ⟨H1, H2, H3, H4, H5, H6, H7, H8, H9, H10, H11, H12, H13⟩
  simp only [List.foldr_cons, List.foldr_nil]
  icases H13 with ⟨H13, H14⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13 H12]
  · rw [held25]
    isplitl [H13]; · iexact H13
    iexact H12
  iexact H14

theorem take26 : St X K c s w v g h [13, 12, 11, 10, 9, 8, 27] ⊢ St X K c s w v g (26 :: h) [28, 9, 8, 27] := by
  unfold St
  rw [cut26, show ∀ l, List.foldr (fun j P => iprop(piece X fullShare c j ∗ P)) iprop(emp) (30 :: l)
    = iprop(piece X fullShare c 30 ∗ List.foldr (fun j P => iprop(piece X fullShare c j ∗ P)) iprop(emp) l) from fun _ => rfl]
  iintro ⟨H1, H2, H3, H4, H5, H6, H7, H8, H9, H10, H11, H12, H13⟩
  icases H13 with ⟨H13, H14⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13 H12]
  · rw [List.foldr_cons, held26]
    isplitl [H13]; · iexact H13
    iexact H12
  iexact H14

end Cert.KernelIdeal.Swap

end
-- ==== Proof.BodyI.lean ====
/-
  The exchange, part by part: what each part of the kernel's body does to `St`. Every operation is one step lemma; this file
  says which, in the kernel's order, and what the words the kernel computes (devices and row offsets) come to.
-/
module

public import proofs.«01_k».proof.Proof.StageI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Stepping under a frame -/

section Frame

theorem step_of {A B R W W' : sProp 𝕄} (h : A ⊢ iprop((B -∗ W) -∗ W')) (hk : iprop(B ∗ R) ⊢ W) : iprop(A ∗ R) ⊢ W' := by
  iintro ⟨HA, HR⟩
  iapply h $$ HA
  iintro HB
  iapply hk
  isplitl [HB]
  · iexact HB
  · iexact HR

theorem step_all {β : Type} {A B R W' : sProp 𝕄} {W : β → sProp 𝕄} (h : A ⊢ iprop((∀ y, B -∗ W y) -∗ W')) (hk : ∀ y, iprop(B ∗ R) ⊢ W y) : iprop(A ∗ R) ⊢ W' := by
  iintro ⟨HA, HR⟩
  iapply h $$ HA
  iintro %y HB
  iapply hk y
  isplitl [HB]
  · iexact HB
  · iexact HR

theorem first_of {A A' R W : sProp 𝕄} (h : A ⊢ A') (hk : iprop(A' ∗ R) ⊢ W) : iprop(A ∗ R) ⊢ W := by
  iintro ⟨HA, HR⟩
  iapply hk
  isplitl [HA]
  · iapply h; iexact HA
  · iexact HR

theorem ret_of {A : sProp 𝕄} {c : Dev nD} {α : Type} {a : α} {Q : α → sProp 𝕄} (h : A ⊢ Q a) : A ⊢ WP c (.ret a) Q := by
  refine h.trans ?_
  unfold WP
  rw [wp_ret]
  iintro H
  imodintro
  iexact H

theorem bind_of {A : sProp 𝕄} {c : Dev nD} {α β : Type} {e : Prog (TpuEff nD τ sig (Elt F) Λ₀ .tc) β} {k : β → Prog (TpuEff nD τ sig (Elt F) Λ₀ .tc) α}
    {Q : α → sProp 𝕄} (h : A ⊢ WP c e fun b => WP c (k b) Q) : A ⊢ WP c (e >>= k) Q := by
  unfold WP at h ⊢
  rw [wp_bind]
  exact h
end Frame

/-! ## The words the kernel computes -/

/-- The first coordinate of the x neighbour, as the word the permutation holds when it swaps. -/
def xw (c : Dev nD) : BitVec 32 := BitVec.ofNat 32 (1 - c.val / 4)

theorem chk_swap : ∀ c : Dev nD, k0_chk1 c (xw c) := by decide +kernel
theorem cond_swap : ∀ c : Dev nD, k0_cond1 c (xw c) = 1#1 := by decide +kernel

section Words
variable {c : Dev nD} {m : ℕ} {hm : m < nD} {i : Fin 27}

/-- The devices named for the transfers along each axis. -/
theorem x_words : ∀ c : Dev nD, ∀ m ∈ [k0_dev1 c (xw c), k0_dev4 c (xw c), k0_dev5 c (xw c), k0_dev6 c (xw c), k0_dev7 c (xw c), k0_dev8 c (xw c), k0_dev9 c (xw c),
    k0_dev10 c (xw c), k0_dev11 c (xw c), k0_dev12 c (xw c), k0_dev31 c (xw c)], m = (peer 0 c).val := by decide +kernel
theorem y_words : ∀ c : Dev nD, ∀ m ∈ [k0_dev2 c, k0_dev13 c, k0_dev15 c, k0_dev17 c, k0_dev19 c, k0_dev21 c, k0_dev23 c, k0_dev25 c, k0_dev27 c,
    k0_dev29 c, k0_dev32 c], m = (peer 1 c).val := by decide +kernel
theorem z_words : ∀ c : Dev nD, ∀ m ∈ [k0_dev3 c, k0_dev14 c, k0_dev16 c, k0_dev18 c, k0_dev20 c, k0_dev22 c, k0_dev24 c, k0_dev26 c, k0_dev28 c,
    k0_dev30 c, k0_dev33 c], m = (peer 2 c).val := by decide +kernel

theorem to_x (hd : dir i = 0) (h : m = (peer 0 c).val) : (⟨m, hm⟩ : Dev nD) = tgt i c := Fin.ext (by show m = (peer (dir i) c).val; rw [h, hd])
theorem to_y (hd : dir i = 1) (h : m = (peer 1 c).val) : (⟨m, hm⟩ : Dev nD) = tgt i c := Fin.ext (by show m = (peer (dir i) c).val; rw [h, hd])
theorem to_z (hd : dir i = 2) (h : m = (peer 2 c).val) : (⟨m, hm⟩ : Dev nD) = tgt i c := Fin.ext (by show m = (peer (dir i) c).val; rw [h, hd])
end Words

/-- The rows named for the transfers. -/
theorem off2 (r : Fin 8) (i : Fin 27) (c : Dev nD) (h : i.val = r.val) : k0_off2 c (BitVec.ofNat 32 (64 * r.val)) = ![0, 16 * lo (tgt i c) i, 0] := by
  rw [k0_off2_eq]
  have e : 1024 * ((c.val / 2) % 2) + 512 * (c.val % 2) + 64 * r.val = 16 * lo (tgt i c) i := by
    revert c; revert i r; decide +kernel
  rw [e]
theorem off3 (r : Fin 8) (i : Fin 27) (c : Dev nD) (h : i.val = r.val ∨ i.val = 8 + r.val ∨ i.val = 16 + r.val) :
    k0_off3 c (BitVec.ofNat 32 (64 * r.val)) = ![0, 16 * lo (tgt i c) i, 0] := by
  rw [k0_off3_eq]
  have e : 1024 * ((c.val / 2) % 2) + 512 * (c.val % 2) + 64 * r.val = 16 * lo (tgt i c) i := by
    revert c; revert i r; decide +kernel
  rw [e]
theorem off4 (c : Dev nD) : k0_off4 c = ![0, 16 * lo (tgt 24 c) 24, 0] := by
  rw [k0_off4_eq, show 1888 - (1024 * ((c.val / 2) % 2) + 512 * (c.val % 2)) = 16 * lo (tgt 24 c) 24 by revert c; decide +kernel]
theorem off5 (c : Dev nD) : k0_off5 c = ![0, 16 * lo (tgt 24 c) 24, 0] := by
  rw [k0_off5_eq, show 1888 - (1024 * ((c.val / 2) % 2) + 512 * (c.val % 2)) = 16 * lo (tgt 24 c) 24 by revert c; decide +kernel]
theorem off6 (c : Dev nD) : k0_off6 c = ![0, 16 * lo (tgt 25 c) 25, 0] := by
  rw [k0_off6_eq, show (1024 * ((c.val / 2) % 2) + 512) - 512 * (c.val % 2) = 16 * lo (tgt 25 c) 25 by revert c; decide +kernel]
theorem off7 (c : Dev nD) : k0_off7 c = ![0, 16 * lo (tgt 26 c) 26, 0] := by
  rw [k0_off7_eq, show (512 * (c.val % 2) + 1200) - 1024 * ((c.val / 2) % 2) = 16 * lo (tgt 26 c) 26 by revert c; decide +kernel]

/-! ## The parts -/

section Parts
abbrev whole_x : (xM).IsWhole := Memref.isWhole_whole _
abbrev whole_pi : (piM).IsWhole := Memref.isWhole_whole _
abbrev whole_o : (oM).IsWhole := Memref.isWhole_whole _
abbrev whole_s : (sM).IsWhole := Memref.isWhole_whole _
abbrev whole_b : (bM).IsWhole := Memref.isWhole_whole _
variable {X : Dev nD → Blk F} {K : Dev nD × Fin 56 → ℕ} {c : Dev nD}

theorem part3 {v5 v8 k0_hw1 v14 v18 v27 k0_h1} {R : sProp 𝕄} {Q}
    (hQ : ∀ r, valOk X c 1 (k0_pay4 r) → iprop(St X K c [0] [] [] [0] [] [] ∗ R) ⊢ Q r) :
    iprop(St X K c [] [] [] [] [] [] ∗ R) ⊢ WP c (k0_part3 (F := F) xM whole_x piM whole_pi oM whole_o sM whole_s bM whole_b cc0_scratch2 cc0_scratch3 cc0_scratch4 cc0_scratch5
      cc0_scoped0 c v5 v8 (xw c) k0_hw1 v14 v18 v27 k0_h1) Q := by
  rw [k0_part3_eq_skeleton]; unfold k0_part3_skel
  simp only [Prog.lift, Prog.bind_op, Prog.bind_ret, Prog.pure_eq_ret]
  refine step_of load_x ?_
  refine step_all (load_chunk (i := 0) (by decide) (by decide) rfl) fun y0 => ?_
  refine step_of (store_chunk (i := 0) (by decide) (by decide) rfl (by rw [pay2_eq]; exact val_of (off2 0 0 c (by decide)))) ?_
  refine step_of (send_chunk (i := 0) (by decide) (by decide) (by decide) (to_x (by decide) (x_words c _ (by simp))) (off3 0 0 c (by decide)) rfl rfl rfl) ?_
  refine step_of load_x ?_
  exact ret_of (hQ _ (by rw [pay4_eq]; exact val_of (off2 1 1 c (by decide))))

theorem part4 {v5 v8 k0_hw1 v14 k0_h1 v122} (hv : valOk X c 1 (k0_pay4 v122)) {R : sProp 𝕄} {Q}
    (hQ : ∀ r, iprop(St X K c [1, 0] [] [] [2, 1, 0] [2] [] ∗ R) ⊢ Q r) :
    iprop(St X K c [0] [] [] [0] [] [] ∗ R) ⊢ WP c (k0_part4 (F := F) xM whole_x piM whole_pi oM whole_o sM whole_s bM whole_b cc0_scratch2 cc0_scratch3 cc0_scratch4 cc0_scratch5
      cc0_scoped0 c v5 v8 (xw c) k0_hw1 v14 k0_h1 v122) Q := by
  rw [k0_part4_eq_skeleton]; unfold k0_part4_skel
  simp only [Prog.lift, Prog.bind_op, Prog.bind_ret, Prog.pure_eq_ret]
  refine step_all (load_chunk (i := 1) (by decide) (by decide) rfl) fun y1 => ?_
  refine step_of (store_chunk (i := 1) (by decide) (by decide) rfl hv) ?_
  refine step_of (send_chunk (i := 1) (by decide) (by decide) (by decide) (to_x (by decide) (x_words c _ (by simp))) (off3 1 1 c (by decide)) rfl rfl rfl) ?_
  refine step_of load_x ?_
  refine step_all (load_chunk (i := 2) (by decide) (by decide) rfl) fun y2 => ?_
  refine step_of (store_chunk (i := 2) (by decide) (by decide) rfl (by rw [pay5_eq]; exact val_of (off2 2 2 c (by decide)))) ?_
  exact ret_of (hQ _)

theorem part5 {v5 v8 k0_hw1 v14 k0_h1 v150 c1_i32_119} {R : sProp 𝕄} {Q}
    (hQ : ∀ r, iprop(St X K c [3, 2, 1, 0] [] [] [3, 2, 1, 0] [] [] ∗ R) ⊢ Q r) :
    iprop(St X K c [1, 0] [] [] [2, 1, 0] [2] [] ∗ R) ⊢ WP c (k0_part5 (F := F) xM whole_x piM whole_pi oM whole_o sM whole_s bM whole_b cc0_scratch2 cc0_scratch3 cc0_scratch4 cc0_scratch5
      cc0_scoped0 c v5 v8 (xw c) k0_hw1 v14 k0_h1 v150 c1_i32_119) Q := by
  rw [k0_part5_eq_skeleton]; unfold k0_part5_skel
  simp only [Prog.lift, Prog.bind_op, Prog.bind_ret, Prog.pure_eq_ret]
  refine step_of (send_chunk (i := 2) (by decide) (by decide) (by decide) (to_x (by decide) (x_words c _ (by simp))) (off3 2 2 c (by decide)) rfl rfl rfl) ?_
  refine step_of load_x ?_
  refine step_all (load_chunk (i := 3) (by decide) (by decide) rfl) fun y3 => ?_
  refine step_of (store_chunk (i := 3) (by decide) (by decide) rfl (by rw [pay6_eq]; exact val_of (off2 3 3 c (by decide)))) ?_
  refine step_of (send_chunk (i := 3) (by decide) (by decide) (by decide) (to_x (by decide) (x_words c _ (by simp))) (off3 3 3 c (by decide)) rfl rfl rfl) ?_
  exact ret_of (hQ _)

theorem part6 {v5 v8 k0_hw1 v14 k0_h1} {R : sProp 𝕄} {Q}
    (hQ : ∀ r, iprop(St X K c [4, 3, 2, 1, 0] [] [] [5, 4, 3, 2, 1, 0] [5] [] ∗ R) ⊢ Q r) :
    iprop(St X K c [3, 2, 1, 0] [] [] [3, 2, 1, 0] [] [] ∗ R) ⊢ WP c (k0_part6 (F := F) xM whole_x piM whole_pi oM whole_o sM whole_s bM whole_b cc0_scratch2 cc0_scratch3 cc0_scratch4 cc0_scratch5
      cc0_scoped0 c v5 v8 (xw c) k0_hw1 v14 k0_h1) Q := by
  rw [k0_part6_eq_skeleton]; unfold k0_part6_skel
  simp only [Prog.lift, Prog.bind_op, Prog.bind_ret, Prog.pure_eq_ret]
  refine step_of load_x ?_
  refine step_all (load_chunk (i := 4) (by decide) (by decide) rfl) fun y4 => ?_
  refine step_of (store_chunk (i := 4) (by decide) (by decide) rfl (by rw [pay7_eq]; exact val_of (off2 4 4 c (by decide)))) ?_
  refine step_of (send_chunk (i := 4) (by decide) (by decide) (by decide) (to_x (by decide) (x_words c _ (by simp))) (off3 4 4 c (by decide)) rfl rfl rfl) ?_
  refine step_of load_x ?_
  refine step_all (load_chunk (i := 5) (by decide) (by decide) rfl) fun y5 => ?_
  refine step_of (store_chunk (i := 5) (by decide) (by decide) rfl (by rw [pay8_eq]; exact val_of (off2 5 5 c (by decide)))) ?_
  exact ret_of (hQ _)

theorem part7 {v5 v8 k0_hw1 v14 k0_h1 v210} {R : sProp 𝕄} {Q}
    (hQ : ∀ r, iprop(St X K c [5, 4, 3, 2, 1, 0] [] [] [6, 5, 4, 3, 2, 1, 0] [6] [] ∗ R) ⊢ Q r) :
    iprop(St X K c [4, 3, 2, 1, 0] [] [] [5, 4, 3, 2, 1, 0] [5] [] ∗ R) ⊢ WP c (k0_part7 (F := F) xM whole_x piM whole_pi oM whole_o sM whole_s bM whole_b cc0_scratch2 cc0_scratch3 cc0_scratch4 cc0_scratch5
      cc0_scoped0 c v5 v8 (xw c) k0_hw1 v14 k0_h1 v210) Q := by
  rw [k0_part7_eq_skeleton]; unfold k0_part7_skel
  simp only [Prog.lift, Prog.bind_op, Prog.bind_ret, Prog.pure_eq_ret]
  refine step_of (send_chunk (i := 5) (by decide) (by decide) (by decide) (to_x (by decide) (x_words c _ (by simp))) (off3 5 5 c (by decide)) rfl rfl rfl) ?_
  refine step_of load_x ?_
  refine step_all (load_chunk (i := 6) (by decide) (by decide) rfl) fun y6 => ?_
  refine step_of (store_chunk (i := 6) (by decide) (by decide) rfl (by rw [pay9_eq]; exact val_of (off2 6 6 c (by decide)))) ?_
  exact ret_of (hQ _)

theorem part8 {v5 v8 k0_hw1 v14 v27 k0_h1} {R : sProp 𝕄} {Q}
    (hQ : ∀ r, iprop(St X K c [7, 6, 5, 4, 3, 2, 1, 0] [] [] [24, 7, 6, 5, 4, 3, 2, 1, 0] [24] [] ∗ R) ⊢ Q r) :
    iprop(St X K c [5, 4, 3, 2, 1, 0] [] [] [6, 5, 4, 3, 2, 1, 0] [6] [] ∗ R) ⊢ WP c (k0_part8 (F := F) xM whole_x piM whole_pi oM whole_o sM whole_s bM whole_b cc0_scratch2 cc0_scratch3 cc0_scratch4 cc0_scratch5
      cc0_scoped0 c v5 v8 (xw c) k0_hw1 v14 v27 k0_h1) Q := by
  rw [k0_part8_eq_skeleton]; unfold k0_part8_skel
  simp only [Prog.lift, Prog.bind_op, Prog.bind_ret, Prog.pure_eq_ret]
  refine step_of (send_chunk (i := 6) (by decide) (by decide) (by decide) (to_x (by decide) (x_words c _ (by simp))) (off3 6 6 c (by decide)) rfl rfl rfl) ?_
  refine step_of load_x ?_
  refine step_all (load_chunk (i := 7) (by decide) (by decide) rfl) fun y7 => ?_
  refine step_of (store_chunk (i := 7) (by decide) (by decide) rfl (by rw [pay10_eq]; exact val_of (off2 7 7 c (by decide)))) ?_
  refine step_of (send_chunk (i := 7) (by decide) (by decide) (by decide) (to_x (by decide) (x_words c _ (by simp))) (off3 7 7 c (by decide)) rfl rfl rfl) ?_
  refine step_of load_x ?_
  refine step_all (load_bd (by decide)) fun y => ?_
  refine step_of (store_bd (by decide) rfl (bd_of (off4 c))) ?_
  exact ret_of (hQ _)

theorem part9 {v2 v5 v8 k0_hw1 v28 k0_h1} {R : sProp 𝕄} {Q}
    (hQ : ∀ r, iprop(St X K c [24, 7, 6, 5, 4, 3, 2, 1, 0] [0] [] [24, 7, 6, 5, 4, 3, 2, 1, 0] [8, 16] [] ∗ R) ⊢ Q r) :
    iprop(St X K c [7, 6, 5, 4, 3, 2, 1, 0] [] [] [24, 7, 6, 5, 4, 3, 2, 1, 0] [24] [] ∗ R) ⊢ WP c (k0_part9 (F := F) xM whole_x piM whole_pi oM whole_o sM whole_s bM whole_b cc0_scratch2 cc0_scratch3 cc0_scratch4 cc0_scratch5
      cc0_scoped0 c v2 v5 v8 (xw c) k0_hw1 v28 k0_h1) Q := by
  rw [k0_part9_eq_skeleton]; unfold k0_part9_skel
  simp only [Prog.lift, Prog.bind_op, Prog.bind_ret, Prog.pure_eq_ret]
  refine step_of (send_bd (by decide) (by decide) (to_x (by decide) (x_words c _ (by simp))) (off5 c) rfl rfl) ?_
  refine step_of (wait_split (i := 0) (a := 8) (b := 16) (by decide) rfl rfl (by decide) (by decide) rfl rfl) ?_
  exact ret_of (hQ _)

theorem part10 {v2 v5 v8 v10 v29 v301 c1_i32_246} {R : sProp 𝕄} {Q}
    (hQ : ∀ r, iprop(St X K c [16, 8, 24, 7, 6, 5, 4, 3, 2, 1, 0] [0] [] [24, 7, 6, 5, 4, 3, 2, 1, 0] [] [] ∗ R) ⊢ Q r) :
    iprop(St X K c [24, 7, 6, 5, 4, 3, 2, 1, 0] [0] [] [24, 7, 6, 5, 4, 3, 2, 1, 0] [8, 16] [] ∗ R) ⊢ WP c (k0_part10 (F := F) xM whole_x piM whole_pi oM whole_o sM whole_s bM whole_b cc0_scratch2 cc0_scratch3 cc0_scratch4 cc0_scratch5
      cc0_scoped0 c v2 v5 v8 v10 v29 v301 c1_i32_246) Q := by
  rw [k0_part10_eq_skeleton]; unfold k0_part10_skel
  simp only [Prog.lift, Prog.bind_op, Prog.bind_ret, Prog.pure_eq_ret]
  refine step_of (send_rows (i := 8) (by decide) (by decide) (by decide) (by decide) (to_y (by decide) (y_words c _ (by simp))) (off3 0 8 c (by decide)) rfl rfl rfl rfl) ?_
  refine step_of (send_rows (i := 16) (by decide) (by decide) (by decide) (by decide) (to_z (by decide) (z_words c _ (by simp))) (off3 0 16 c (by decide)) rfl rfl rfl rfl) ?_
  exact ret_of (hQ _)

theorem part11 {v2 v5 v8 v28 v29} {R : sProp 𝕄} {Q}
    (hQ : ∀ r, iprop(St X K c [17, 9, 16, 8, 24, 7, 6, 5, 4, 3, 2, 1, 0] [1, 0] [] [24, 7, 6, 5, 4, 3, 2, 1, 0] [] [] ∗ R) ⊢ Q r) :
    iprop(St X K c [16, 8, 24, 7, 6, 5, 4, 3, 2, 1, 0] [0] [] [24, 7, 6, 5, 4, 3, 2, 1, 0] [] [] ∗ R) ⊢ WP c (k0_part11 (F := F) xM whole_x piM whole_pi oM whole_o sM whole_s bM whole_b cc0_scratch2 cc0_scratch3 cc0_scratch4 cc0_scratch5
      cc0_scoped0 c v2 v5 v8 v28 v29) Q := by
  rw [k0_part11_eq_skeleton]; unfold k0_part11_skel
  simp only [Prog.lift, Prog.bind_op, Prog.bind_ret, Prog.pure_eq_ret]
  refine step_of (wait_split (i := 1) (a := 9) (b := 17) (by decide) rfl rfl (by decide) (by decide) rfl rfl) ?_
  refine step_of (send_rows (i := 9) (by decide) (by decide) (by decide) (by decide) (to_y (by decide) (y_words c _ (by simp))) (off3 1 9 c (by decide)) rfl rfl rfl rfl) ?_
  refine step_of (send_rows (i := 17) (by decide) (by decide) (by decide) (by decide) (to_z (by decide) (z_words c _ (by simp))) (off3 1 17 c (by decide)) rfl rfl rfl rfl) ?_
  exact ret_of (hQ _)

theorem part12 {v2 v5 v8 v10 v28} {R : sProp 𝕄} {Q}
    (hQ : ∀ r, iprop(St X K c [10, 17, 9, 16, 8, 24, 7, 6, 5, 4, 3, 2, 1, 0] [2, 1, 0] [] [24, 7, 6, 5, 4, 3, 2, 1, 0] [18] [] ∗ R) ⊢ Q r) :
    iprop(St X K c [17, 9, 16, 8, 24, 7, 6, 5, 4, 3, 2, 1, 0] [1, 0] [] [24, 7, 6, 5, 4, 3, 2, 1, 0] [] [] ∗ R) ⊢ WP c (k0_part12 (F := F) xM whole_x piM whole_pi oM whole_o sM whole_s bM whole_b cc0_scratch2 cc0_scratch3 cc0_scratch4 cc0_scratch5
      cc0_scoped0 c v2 v5 v8 v10 v28) Q := by
  rw [k0_part12_eq_skeleton]; unfold k0_part12_skel
  simp only [Prog.lift, Prog.bind_op, Prog.bind_ret, Prog.pure_eq_ret]
  refine step_of (wait_split (i := 2) (a := 10) (b := 18) (by decide) rfl rfl (by decide) (by decide) rfl rfl) ?_
  refine step_of (send_rows (i := 10) (by decide) (by decide) (by decide) (by decide) (to_y (by decide) (y_words c _ (by simp))) (off3 2 10 c (by decide)) rfl rfl rfl rfl) ?_
  exact ret_of (hQ _)

theorem part13 {v2 v5 v8 v10 v28 v29 c4_i32_329} {R : sProp 𝕄} {Q}
    (hQ : ∀ r, iprop(St X K c [18, 10, 17, 9, 16, 8, 24, 7, 6, 5, 4, 3, 2, 1, 0] [3, 2, 1, 0] [] [24, 7, 6, 5, 4, 3, 2, 1, 0] [11, 19] [] ∗ R) ⊢ Q r) :
    iprop(St X K c [10, 17, 9, 16, 8, 24, 7, 6, 5, 4, 3, 2, 1, 0] [2, 1, 0] [] [24, 7, 6, 5, 4, 3, 2, 1, 0] [18] [] ∗ R) ⊢ WP c (k0_part13 (F := F) xM whole_x piM whole_pi oM whole_o sM whole_s bM whole_b cc0_scratch2 cc0_scratch3 cc0_scratch4 cc0_scratch5
      cc0_scoped0 c v2 v5 v8 v10 v28 v29 c4_i32_329) Q := by
  rw [k0_part13_eq_skeleton]; unfold k0_part13_skel
  simp only [Prog.lift, Prog.bind_op, Prog.bind_ret, Prog.pure_eq_ret]
  refine step_of (send_rows (i := 18) (by decide) (by decide) (by decide) (by decide) (to_z (by decide) (z_words c _ (by simp))) (off3 2 18 c (by decide)) rfl rfl rfl rfl) ?_
  refine step_of (wait_split (i := 3) (a := 11) (b := 19) (by decide) rfl rfl (by decide) (by decide) rfl rfl) ?_
  exact ret_of (hQ _)

theorem part14 {v2 v5 v8 v10 v29 v421 c1_i32_357} {R : sProp 𝕄} {Q}
    (hQ : ∀ r, iprop(St X K c [19, 11, 18, 10, 17, 9, 16, 8, 24, 7, 6, 5, 4, 3, 2, 1, 0] [3, 2, 1, 0] [] [24, 7, 6, 5, 4, 3, 2, 1, 0] [] [] ∗ R) ⊢ Q r) :
    iprop(St X K c [18, 10, 17, 9, 16, 8, 24, 7, 6, 5, 4, 3, 2, 1, 0] [3, 2, 1, 0] [] [24, 7, 6, 5, 4, 3, 2, 1, 0] [11, 19] [] ∗ R) ⊢ WP c (k0_part14 (F := F) xM whole_x piM whole_pi oM whole_o sM whole_s bM whole_b cc0_scratch2 cc0_scratch3 cc0_scratch4 cc0_scratch5
      cc0_scoped0 c v2 v5 v8 v10 v29 v421 c1_i32_357) Q := by
  rw [k0_part14_eq_skeleton]; unfold k0_part14_skel
  simp only [Prog.lift, Prog.bind_op, Prog.bind_ret, Prog.pure_eq_ret]
  refine step_of (send_rows (i := 11) (by decide) (by decide) (by decide) (by decide) (to_y (by decide) (y_words c _ (by simp))) (off3 3 11 c (by decide)) rfl rfl rfl rfl) ?_
  refine step_of (send_rows (i := 19) (by decide) (by decide) (by decide) (by decide) (to_z (by decide) (z_words c _ (by simp))) (off3 3 19 c (by decide)) rfl rfl rfl rfl) ?_
  exact ret_of (hQ _)

theorem part15 {v2 v5 v8 v28 v29} {R : sProp 𝕄} {Q}
    (hQ : ∀ r, iprop(St X K c [20, 12, 19, 11, 18, 10, 17, 9, 16, 8, 24, 7, 6, 5, 4, 3, 2, 1, 0] [4, 3, 2, 1, 0] [] [24, 7, 6, 5, 4, 3, 2, 1, 0] [] [] ∗ R) ⊢ Q r) :
    iprop(St X K c [19, 11, 18, 10, 17, 9, 16, 8, 24, 7, 6, 5, 4, 3, 2, 1, 0] [3, 2, 1, 0] [] [24, 7, 6, 5, 4, 3, 2, 1, 0] [] [] ∗ R) ⊢ WP c (k0_part15 (F := F) xM whole_x piM whole_pi oM whole_o sM whole_s bM whole_b cc0_scratch2 cc0_scratch3 cc0_scratch4 cc0_scratch5
      cc0_scoped0 c v2 v5 v8 v28 v29) Q := by
  rw [k0_part15_eq_skeleton]; unfold k0_part15_skel
  simp only [Prog.lift, Prog.bind_op, Prog.bind_ret, Prog.pure_eq_ret]
  refine step_of (wait_split (i := 4) (a := 12) (b := 20) (by decide) rfl rfl (by decide) (by decide) rfl rfl) ?_
  refine step_of (send_rows (i := 12) (by decide) (by decide) (by decide) (by decide) (to_y (by decide) (y_words c _ (by simp))) (off3 4 12 c (by decide)) rfl rfl rfl rfl) ?_
  refine step_of (send_rows (i := 20) (by decide) (by decide) (by decide) (by decide) (to_z (by decide) (z_words c _ (by simp))) (off3 4 20 c (by decide)) rfl rfl rfl rfl) ?_
  exact ret_of (hQ _)

theorem part16 {v2 v5 v8 v10 v28} {R : sProp 𝕄} {Q}
    (hQ : ∀ r, iprop(St X K c [13, 20, 12, 19, 11, 18, 10, 17, 9, 16, 8, 24, 7, 6, 5, 4, 3, 2, 1, 0] [5, 4, 3, 2, 1, 0] [] [24, 7, 6, 5, 4, 3, 2, 1, 0] [21] [] ∗ R) ⊢ Q r) :
    iprop(St X K c [20, 12, 19, 11, 18, 10, 17, 9, 16, 8, 24, 7, 6, 5, 4, 3, 2, 1, 0] [4, 3, 2, 1, 0] [] [24, 7, 6, 5, 4, 3, 2, 1, 0] [] [] ∗ R) ⊢ WP c (k0_part16 (F := F) xM whole_x piM whole_pi oM whole_o sM whole_s bM whole_b cc0_scratch2 cc0_scratch3 cc0_scratch4 cc0_scratch5
      cc0_scoped0 c v2 v5 v8 v10 v28) Q := by
  rw [k0_part16_eq_skeleton]; unfold k0_part16_skel
  simp only [Prog.lift, Prog.bind_op, Prog.bind_ret, Prog.pure_eq_ret]
  refine step_of (wait_split (i := 5) (a := 13) (b := 21) (by decide) rfl rfl (by decide) (by decide) rfl rfl) ?_
  refine step_of (send_rows (i := 13) (by decide) (by decide) (by decide) (by decide) (to_y (by decide) (y_words c _ (by simp))) (off3 5 13 c (by decide)) rfl rfl rfl rfl) ?_
  exact ret_of (hQ _)

theorem part17 {v2 v5 v8 v10 v28 v29 c4_i32_440} {R : sProp 𝕄} {Q}
    (hQ : ∀ r, iprop(St X K c [21, 13, 20, 12, 19, 11, 18, 10, 17, 9, 16, 8, 24, 7, 6, 5, 4, 3, 2, 1, 0] [6, 5, 4, 3, 2, 1, 0] [] [24, 7, 6, 5, 4, 3, 2, 1, 0] [14, 22] [] ∗ R) ⊢ Q r) :
    iprop(St X K c [13, 20, 12, 19, 11, 18, 10, 17, 9, 16, 8, 24, 7, 6, 5, 4, 3, 2, 1, 0] [5, 4, 3, 2, 1, 0] [] [24, 7, 6, 5, 4, 3, 2, 1, 0] [21] [] ∗ R) ⊢ WP c (k0_part17 (F := F) xM whole_x piM whole_pi oM whole_o sM whole_s bM whole_b cc0_scratch2 cc0_scratch3 cc0_scratch4 cc0_scratch5
      cc0_scoped0 c v2 v5 v8 v10 v28 v29 c4_i32_440) Q := by
  rw [k0_part17_eq_skeleton]; unfold k0_part17_skel
  simp only [Prog.lift, Prog.bind_op, Prog.bind_ret, Prog.pure_eq_ret]
  refine step_of (send_rows (i := 21) (by decide) (by decide) (by decide) (by decide) (to_z (by decide) (z_words c _ (by simp))) (off3 5 21 c (by decide)) rfl rfl rfl rfl) ?_
  refine step_of (wait_split (i := 6) (a := 14) (b := 22) (by decide) rfl rfl (by decide) (by decide) rfl rfl) ?_
  exact ret_of (hQ _)

theorem part18 {v2 v5 v8 v10 v29 v541 c1_i32_468} {R : sProp 𝕄} {Q}
    (hQ : ∀ r, iprop(St X K c [22, 14, 21, 13, 20, 12, 19, 11, 18, 10, 17, 9, 16, 8, 24, 7, 6, 5, 4, 3, 2, 1, 0] [6, 5, 4, 3, 2, 1, 0] [] [24, 7, 6, 5, 4, 3, 2, 1, 0] [] [] ∗ R) ⊢ Q r) :
    iprop(St X K c [21, 13, 20, 12, 19, 11, 18, 10, 17, 9, 16, 8, 24, 7, 6, 5, 4, 3, 2, 1, 0] [6, 5, 4, 3, 2, 1, 0] [] [24, 7, 6, 5, 4, 3, 2, 1, 0] [14, 22] [] ∗ R) ⊢ WP c (k0_part18 (F := F) xM whole_x piM whole_pi oM whole_o sM whole_s bM whole_b cc0_scratch2 cc0_scratch3 cc0_scratch4 cc0_scratch5
      cc0_scoped0 c v2 v5 v8 v10 v29 v541 c1_i32_468) Q := by
  rw [k0_part18_eq_skeleton]; unfold k0_part18_skel
  simp only [Prog.lift, Prog.bind_op, Prog.bind_ret, Prog.pure_eq_ret]
  refine step_of (send_rows (i := 14) (by decide) (by decide) (by decide) (by decide) (to_y (by decide) (y_words c _ (by simp))) (off3 6 14 c (by decide)) rfl rfl rfl rfl) ?_
  refine step_of (send_rows (i := 22) (by decide) (by decide) (by decide) (by decide) (to_z (by decide) (z_words c _ (by simp))) (off3 6 22 c (by decide)) rfl rfl rfl rfl) ?_
  exact ret_of (hQ _)

theorem part19 {v2 v5 v8 v28 v29} {R : sProp 𝕄} {Q}
    (hQ : ∀ r, iprop(St X K c [23, 15, 22, 14, 21, 13, 20, 12, 19, 11, 18, 10, 17, 9, 16, 8, 24, 7, 6, 5, 4, 3, 2, 1, 0] [7, 6, 5, 4, 3, 2, 1, 0] [] [24, 7, 6, 5, 4, 3, 2, 1, 0] [] [] ∗ R) ⊢ Q r) :
    iprop(St X K c [22, 14, 21, 13, 20, 12, 19, 11, 18, 10, 17, 9, 16, 8, 24, 7, 6, 5, 4, 3, 2, 1, 0] [6, 5, 4, 3, 2, 1, 0] [] [24, 7, 6, 5, 4, 3, 2, 1, 0] [] [] ∗ R) ⊢ WP c (k0_part19 (F := F) xM whole_x piM whole_pi oM whole_o sM whole_s bM whole_b cc0_scratch2 cc0_scratch3 cc0_scratch4 cc0_scratch5
      cc0_scoped0 c v2 v5 v8 v28 v29) Q := by
  rw [k0_part19_eq_skeleton]; unfold k0_part19_skel
  simp only [Prog.lift, Prog.bind_op, Prog.bind_ret, Prog.pure_eq_ret]
  refine step_of (wait_split (i := 7) (a := 15) (b := 23) (by decide) rfl rfl (by decide) (by decide) rfl rfl) ?_
  refine step_of (send_rows (i := 15) (by decide) (by decide) (by decide) (by decide) (to_y (by decide) (y_words c _ (by simp))) (off3 7 15 c (by decide)) rfl rfl rfl rfl) ?_
  refine step_of (send_rows (i := 23) (by decide) (by decide) (by decide) (by decide) (to_z (by decide) (z_words c _ (by simp))) (off3 7 23 c (by decide)) rfl rfl rfl rfl) ?_
  exact ret_of (hQ _)

theorem part20 {v2 v5 v29} {R : sProp 𝕄} {Q}
    (hQ : ∀ r, iprop(St X K c [23, 15, 22, 14, 21, 13, 20, 12, 19, 11, 18, 10, 17, 9, 16, 8, 24, 7, 6, 5, 4, 3, 2, 1, 0] [17, 16, 7, 6, 5, 4, 3, 2, 1, 0] [] [24, 7, 6, 5, 4, 3, 2, 1, 0] [] [17, 16] ∗ R) ⊢ Q r) :
    iprop(St X K c [23, 15, 22, 14, 21, 13, 20, 12, 19, 11, 18, 10, 17, 9, 16, 8, 24, 7, 6, 5, 4, 3, 2, 1, 0] [7, 6, 5, 4, 3, 2, 1, 0] [] [24, 7, 6, 5, 4, 3, 2, 1, 0] [] [] ∗ R) ⊢ WP c (k0_part20 (F := F) xM whole_x piM whole_pi oM whole_o sM whole_s bM whole_b cc0_scratch2 cc0_scratch3 cc0_scratch4 cc0_scratch5
      cc0_scoped0 c v2 v5 v29) Q := by
  rw [k0_part20_eq_skeleton]; unfold k0_part20_skel
  simp only [Prog.lift, Prog.bind_op, Prog.bind_ret, Prog.pure_eq_ret]
  refine step_of (wait_keep (i := 16) (by decide) (by decide) rfl rfl) ?_
  refine step_of (wait_keep (i := 17) (by decide) (by decide) rfl rfl) ?_
  exact ret_of (hQ _)

theorem part21 {v2 v5 v8 v28 v29 v631} {R : sProp 𝕄} {Q}
    (hQ : ∀ r, iprop(St X K c [25, 23, 15, 22, 14, 21, 13, 20, 12, 19, 11, 18, 10, 17, 9, 16, 8, 24, 7, 6, 5, 4, 3, 2, 1, 0] [18, 17, 16, 7, 6, 5, 4, 3, 2, 1, 0] [] [24, 7, 6, 5, 4, 3, 2, 1, 0] [] [27] ∗ R) ⊢ Q r) :
    iprop(St X K c [23, 15, 22, 14, 21, 13, 20, 12, 19, 11, 18, 10, 17, 9, 16, 8, 24, 7, 6, 5, 4, 3, 2, 1, 0] [17, 16, 7, 6, 5, 4, 3, 2, 1, 0] [] [24, 7, 6, 5, 4, 3, 2, 1, 0] [] [17, 16] ∗ R) ⊢ WP c (k0_part21 (F := F) xM whole_x piM whole_pi oM whole_o sM whole_s bM whole_b cc0_scratch2 cc0_scratch3 cc0_scratch4 cc0_scratch5
      cc0_scoped0 c v2 v5 v8 v28 v29 v631) Q := by
  rw [k0_part21_eq_skeleton]; unfold k0_part21_skel
  simp only [Prog.lift, Prog.bind_op, Prog.bind_ret, Prog.pure_eq_ret]
  refine step_of (wait_keep (i := 18) (by decide) (by decide) rfl rfl) ?_
  refine first_of take25 ?_
  refine step_of (send_rows (i := 25) (by decide) (by decide) (by decide) (by decide) (to_y (by decide) (y_words c _ (by simp))) (off6 c) rfl rfl rfl rfl) ?_
  exact ret_of (hQ _)

theorem part22 {v2 v8 v28} {R : sProp 𝕄} {Q}
    (hQ : ∀ r, iprop(St X K c [25, 23, 15, 22, 14, 21, 13, 20, 12, 19, 11, 18, 10, 17, 9, 16, 8, 24, 7, 6, 5, 4, 3, 2, 1, 0] [10, 9, 8, 18, 17, 16, 7, 6, 5, 4, 3, 2, 1, 0] [] [24, 7, 6, 5, 4, 3, 2, 1, 0] [] [10, 9, 8, 27] ∗ R) ⊢ Q r) :
    iprop(St X K c [25, 23, 15, 22, 14, 21, 13, 20, 12, 19, 11, 18, 10, 17, 9, 16, 8, 24, 7, 6, 5, 4, 3, 2, 1, 0] [18, 17, 16, 7, 6, 5, 4, 3, 2, 1, 0] [] [24, 7, 6, 5, 4, 3, 2, 1, 0] [] [27] ∗ R) ⊢ WP c (k0_part22 (F := F) xM whole_x piM whole_pi oM whole_o sM whole_s bM whole_b cc0_scratch2 cc0_scratch3 cc0_scratch4 cc0_scratch5
      cc0_scoped0 c v2 v8 v28) Q := by
  rw [k0_part22_eq_skeleton]; unfold k0_part22_skel
  simp only [Prog.lift, Prog.bind_op, Prog.bind_ret, Prog.pure_eq_ret]
  refine step_of (wait_keep (i := 8) (by decide) (by decide) rfl rfl) ?_
  refine step_of (wait_keep (i := 9) (by decide) (by decide) rfl rfl) ?_
  refine step_of (wait_keep (i := 10) (by decide) (by decide) rfl rfl) ?_
  exact ret_of (hQ _)

theorem part23 {v2 v8 v28} {R : sProp 𝕄} {Q}
    (hQ : ∀ r, iprop(St X K c [25, 23, 15, 22, 14, 21, 13, 20, 12, 19, 11, 18, 10, 17, 9, 16, 8, 24, 7, 6, 5, 4, 3, 2, 1, 0] [12, 11, 10, 9, 8, 18, 17, 16, 7, 6, 5, 4, 3, 2, 1, 0] [] [24, 7, 6, 5, 4, 3, 2, 1, 0] [] [12, 11, 10, 9, 8, 27] ∗ R) ⊢ Q r) :
    iprop(St X K c [25, 23, 15, 22, 14, 21, 13, 20, 12, 19, 11, 18, 10, 17, 9, 16, 8, 24, 7, 6, 5, 4, 3, 2, 1, 0] [10, 9, 8, 18, 17, 16, 7, 6, 5, 4, 3, 2, 1, 0] [] [24, 7, 6, 5, 4, 3, 2, 1, 0] [] [10, 9, 8, 27] ∗ R) ⊢ WP c (k0_part23 (F := F) xM whole_x piM whole_pi oM whole_o sM whole_s bM whole_b cc0_scratch2 cc0_scratch3 cc0_scratch4 cc0_scratch5
      cc0_scoped0 c v2 v8 v28) Q := by
  rw [k0_part23_eq_skeleton]; unfold k0_part23_skel
  simp only [Prog.lift, Prog.bind_op, Prog.bind_ret, Prog.pure_eq_ret]
  refine step_of (wait_keep (i := 11) (by decide) (by decide) rfl rfl) ?_
  refine step_of (wait_keep (i := 12) (by decide) (by decide) rfl rfl) ?_
  exact ret_of (hQ _)

theorem part24 {v2 v5 v8 v28 v29 v719 v720} {R : sProp 𝕄} {Q}
    (hQ : ∀ r, iprop(St X K c [26, 25, 23, 15, 22, 14, 21, 13, 20, 12, 19, 11, 18, 10, 17, 9, 16, 8, 24, 7, 6, 5, 4, 3, 2, 1, 0] [14, 13, 12, 11, 10, 9, 8, 18, 17, 16, 7, 6, 5, 4, 3, 2, 1, 0] [] [24, 7, 6, 5, 4, 3, 2, 1, 0] [] [14, 28, 9, 8, 27] ∗ R) ⊢ Q r) :
    iprop(St X K c [25, 23, 15, 22, 14, 21, 13, 20, 12, 19, 11, 18, 10, 17, 9, 16, 8, 24, 7, 6, 5, 4, 3, 2, 1, 0] [12, 11, 10, 9, 8, 18, 17, 16, 7, 6, 5, 4, 3, 2, 1, 0] [] [24, 7, 6, 5, 4, 3, 2, 1, 0] [] [12, 11, 10, 9, 8, 27] ∗ R) ⊢ WP c (k0_part24 (F := F) xM whole_x piM whole_pi oM whole_o sM whole_s bM whole_b cc0_scratch2 cc0_scratch3 cc0_scratch4 cc0_scratch5
      cc0_scoped0 c v2 v5 v8 v28 v29 v719 v720) Q := by
  rw [k0_part24_eq_skeleton]; unfold k0_part24_skel
  simp only [Prog.lift, Prog.bind_op, Prog.bind_ret, Prog.pure_eq_ret]
  refine step_of (wait_keep (i := 13) (by decide) (by decide) rfl rfl) ?_
  refine first_of take26 ?_
  refine step_of (send_rows (i := 26) (by decide) (by decide) (by decide) (by decide) (to_z (by decide) (z_words c _ (by simp))) (off7 c) rfl rfl rfl rfl) ?_
  refine step_of (wait_keep (i := 14) (by decide) (by decide) rfl rfl) ?_
  exact ret_of (hQ _)

theorem part25 {v2 v5 v8 v28 v29} {R : sProp 𝕄} {Q}
    (hQ : ∀ r, iprop(St X K c [26, 25, 23, 15, 22, 14, 21, 13, 20, 12, 19, 11, 18, 10, 17, 9, 16, 8, 24, 7, 6, 5, 4, 3, 2, 1, 0] [19, 15, 14, 13, 12, 11, 10, 9, 8, 18, 17, 16, 7, 6, 5, 4, 3, 2, 1, 0] [] [24, 7, 6, 5, 4, 3, 2, 1, 0] [] [19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [14, 13, 12, 11, 10, 9, 8, 18, 17, 16, 7, 6, 5, 4, 3, 2, 1, 0] [] [24, 7, 6, 5, 4, 3, 2, 1, 0] [] [14, 28, 9, 8, 27] ∗ R) ⊢ WP c (k0_part25 (F := F) xM whole_x piM whole_pi oM whole_o sM whole_s bM whole_b cc0_scratch2 cc0_scratch3 cc0_scratch4 cc0_scratch5
      cc0_scoped0 c v2 v5 v8 v28 v29) Q := by
  rw [k0_part25_eq_skeleton]; unfold k0_part25_skel
  simp only [Prog.lift, Prog.bind_op, Prog.bind_ret, Prog.pure_eq_ret]
  refine step_of (wait_keep (i := 15) (by decide) (by decide) rfl rfl) ?_
  refine step_of (wait_keep (i := 19) (by decide) (by decide) rfl rfl) ?_
  exact ret_of (hQ _)

theorem part26 {v2 v5 v29 v779} {R : sProp 𝕄} {Q}
    (hQ : ∀ r, iprop(St X K c [26, 25, 23, 15, 22, 14, 21, 13, 20, 12, 19, 11, 18, 10, 17, 9, 16, 8, 24, 7, 6, 5, 4, 3, 2, 1, 0] [21, 20, 19, 15, 14, 13, 12, 11, 10, 9, 8, 18, 17, 16, 7, 6, 5, 4, 3, 2, 1, 0] [] [24, 7, 6, 5, 4, 3, 2, 1, 0] [] [21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [19, 15, 14, 13, 12, 11, 10, 9, 8, 18, 17, 16, 7, 6, 5, 4, 3, 2, 1, 0] [] [24, 7, 6, 5, 4, 3, 2, 1, 0] [] [19, 15, 14, 28, 9, 8, 27] ∗ R) ⊢ WP c (k0_part26 (F := F) xM whole_x piM whole_pi oM whole_o sM whole_s bM whole_b cc0_scratch2 cc0_scratch3 cc0_scratch4 cc0_scratch5
      cc0_scoped0 c v2 v5 v29 v779) Q := by
  rw [k0_part26_eq_skeleton]; unfold k0_part26_skel
  simp only [Prog.lift, Prog.bind_op, Prog.bind_ret, Prog.pure_eq_ret]
  refine step_of (wait_keep (i := 20) (by decide) (by decide) rfl rfl) ?_
  refine step_of (wait_keep (i := 21) (by decide) (by decide) rfl rfl) ?_
  exact ret_of (hQ _)

theorem part27 {v2 v5 v8 v10 v28 v29} {R : sProp 𝕄} {Q}
    (hQ : ∀ r, iprop(St X K c [26, 25, 23, 15, 22, 14, 21, 13, 20, 12, 19, 11, 18, 10, 17, 9, 16, 8, 24, 7, 6, 5, 4, 3, 2, 1, 0] [24, 23, 22, 21, 20, 19, 15, 14, 13, 12, 11, 10, 9, 8, 18, 17, 16, 7, 6, 5, 4, 3, 2, 1, 0] [] [24, 7, 6, 5, 4, 3, 2, 1, 0] [] [24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [21, 20, 19, 15, 14, 13, 12, 11, 10, 9, 8, 18, 17, 16, 7, 6, 5, 4, 3, 2, 1, 0] [] [24, 7, 6, 5, 4, 3, 2, 1, 0] [] [21, 20, 19, 15, 14, 28, 9, 8, 27] ∗ R) ⊢ WP c (k0_part27 (F := F) xM whole_x piM whole_pi oM whole_o sM whole_s bM whole_b cc0_scratch2 cc0_scratch3 cc0_scratch4 cc0_scratch5
      cc0_scoped0 c v2 v5 v8 v10 v28 v29) Q := by
  rw [k0_part27_eq_skeleton]; unfold k0_part27_skel
  simp only [Prog.lift, Prog.bind_op, Prog.bind_ret, Prog.pure_eq_ret]
  refine step_of (wait_keep (i := 22) (by decide) (by decide) rfl rfl) ?_
  refine step_of (wait_keep (i := 23) (by decide) (by decide) rfl rfl) ?_
  refine step_of (wait_keep (i := 24) (by decide) (by decide) rfl rfl) ?_
  exact ret_of (hQ _)

theorem part28 {v2 v5 v8 v29 v839} {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [24, 23, 22, 21, 20, 19, 15, 14, 13, 12, 11, 10, 9, 8, 18, 17, 16, 7, 6, 5, 4, 3, 2, 1, 0] [] [24, 7, 6, 5, 4, 3, 2, 1, 0] [] [24, 23, 22, 21, 20, 19, 15, 14, 28, 9, 8, 27] ∗ R) ⊢ WP c (k0_part28 (F := F) xM whole_x piM whole_pi oM whole_o sM whole_s bM whole_b cc0_scratch2 cc0_scratch3 cc0_scratch4 cc0_scratch5
      cc0_scoped0 c v2 v5 v8 v29 v839) Q := by
  rw [k0_part28_eq_skeleton]; unfold k0_part28_skel
  simp only [Prog.lift, Prog.bind_op, Prog.bind_ret, Prog.pure_eq_ret]
  refine step_of (wait_keep (i := 25) (by decide) (by decide) rfl rfl) ?_
  refine step_of (wait_keep (i := 26) (by decide) (by decide) rfl rfl) ?_
  refine step_of (wait_snd (i := 0) (by decide) (by decide) rfl rfl) ?_
  exact ret_of (hQ _)

theorem part29 {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [4, 3, 2, 1, 0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [0] [24, 7, 6, 5, 4, 3, 2, 1, 0] [] [26, 25, 24, 23, 22, 21, 20, 19, 15, 14, 28, 9, 8, 27] ∗ R) ⊢ WP c (k0_part29 (F := F) xM whole_x piM whole_pi oM whole_o sM whole_s bM whole_b cc0_scratch2 cc0_scratch3 cc0_scratch4 cc0_scratch5
      cc0_scoped0 c) Q := by
  rw [k0_part29_eq_skeleton]; unfold k0_part29_skel
  simp only [Prog.lift, Prog.bind_op, Prog.bind_ret, Prog.pure_eq_ret]
  refine step_of (wait_snd (i := 1) (by decide) (by decide) rfl rfl) ?_
  refine step_of (wait_snd (i := 2) (by decide) (by decide) rfl rfl) ?_
  refine step_of (wait_snd (i := 3) (by decide) (by decide) rfl rfl) ?_
  refine step_of (wait_snd (i := 4) (by decide) (by decide) rfl rfl) ?_
  exact ret_of (hQ _)

theorem part30 {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [7, 6, 5, 4, 3, 2, 1, 0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [4, 3, 2, 1, 0] [24, 7, 6, 5, 4, 3, 2, 1, 0] [] [26, 25, 24, 23, 22, 21, 20, 19, 15, 14, 28, 9, 8, 27] ∗ R) ⊢ WP c (k0_part30 (F := F) xM whole_x piM whole_pi oM whole_o sM whole_s bM whole_b cc0_scratch2 cc0_scratch3 cc0_scratch4 cc0_scratch5
      cc0_scoped0 c) Q := by
  rw [k0_part30_eq_skeleton]; unfold k0_part30_skel
  simp only [Prog.lift, Prog.bind_op, Prog.bind_ret, Prog.pure_eq_ret]
  refine step_of (wait_snd (i := 5) (by decide) (by decide) rfl rfl) ?_
  refine step_of (wait_snd (i := 6) (by decide) (by decide) rfl rfl) ?_
  refine step_of (wait_snd (i := 7) (by decide) (by decide) rfl rfl) ?_
  exact ret_of (hQ _)

theorem part31 {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [11, 10, 9, 8, 7, 6, 5, 4, 3, 2, 1, 0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [7, 6, 5, 4, 3, 2, 1, 0] [24, 7, 6, 5, 4, 3, 2, 1, 0] [] [26, 25, 24, 23, 22, 21, 20, 19, 15, 14, 28, 9, 8, 27] ∗ R) ⊢ WP c (k0_part31 (F := F) xM whole_x piM whole_pi oM whole_o sM whole_s bM whole_b cc0_scratch2 cc0_scratch3 cc0_scratch4 cc0_scratch5
      cc0_scoped0 c) Q := by
  rw [k0_part31_eq_skeleton]; unfold k0_part31_skel
  simp only [Prog.lift, Prog.bind_op, Prog.bind_ret, Prog.pure_eq_ret]
  refine step_of (wait_snd (i := 8) (by decide) (by decide) rfl rfl) ?_
  refine step_of (wait_snd (i := 9) (by decide) (by decide) rfl rfl) ?_
  refine step_of (wait_snd (i := 10) (by decide) (by decide) rfl rfl) ?_
  refine step_of (wait_snd (i := 11) (by decide) (by decide) rfl rfl) ?_
  exact ret_of (hQ _)

theorem part32 {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [15, 14, 13, 12, 11, 10, 9, 8, 7, 6, 5, 4, 3, 2, 1, 0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [11, 10, 9, 8, 7, 6, 5, 4, 3, 2, 1, 0] [24, 7, 6, 5, 4, 3, 2, 1, 0] [] [26, 25, 24, 23, 22, 21, 20, 19, 15, 14, 28, 9, 8, 27] ∗ R) ⊢ WP c (k0_part32 (F := F) xM whole_x piM whole_pi oM whole_o sM whole_s bM whole_b cc0_scratch2 cc0_scratch3 cc0_scratch4 cc0_scratch5
      cc0_scoped0 c) Q := by
  rw [k0_part32_eq_skeleton]; unfold k0_part32_skel
  simp only [Prog.lift, Prog.bind_op, Prog.bind_ret, Prog.pure_eq_ret]
  refine step_of (wait_snd (i := 12) (by decide) (by decide) rfl rfl) ?_
  refine step_of (wait_snd (i := 13) (by decide) (by decide) rfl rfl) ?_
  refine step_of (wait_snd (i := 14) (by decide) (by decide) rfl rfl) ?_
  refine step_of (wait_snd (i := 15) (by decide) (by decide) rfl rfl) ?_
  exact ret_of (hQ _)

theorem part33 {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [18, 17, 16, 15, 14, 13, 12, 11, 10, 9, 8, 7, 6, 5, 4, 3, 2, 1, 0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [15, 14, 13, 12, 11, 10, 9, 8, 7, 6, 5, 4, 3, 2, 1, 0] [24, 7, 6, 5, 4, 3, 2, 1, 0] [] [26, 25, 24, 23, 22, 21, 20, 19, 15, 14, 28, 9, 8, 27] ∗ R) ⊢ WP c (k0_part33 (F := F) xM whole_x piM whole_pi oM whole_o sM whole_s bM whole_b cc0_scratch2 cc0_scratch3 cc0_scratch4 cc0_scratch5
      cc0_scoped0 c) Q := by
  rw [k0_part33_eq_skeleton]; unfold k0_part33_skel
  simp only [Prog.lift, Prog.bind_op, Prog.bind_ret, Prog.pure_eq_ret]
  refine step_of (wait_snd (i := 16) (by decide) (by decide) rfl rfl) ?_
  refine step_of (wait_snd (i := 17) (by decide) (by decide) rfl rfl) ?_
  refine step_of (wait_snd (i := 18) (by decide) (by decide) rfl rfl) ?_
  exact ret_of (hQ _)

theorem part34 {R : sProp 𝕄} {Q}
    (hQ : ∀ r, iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [22, 21, 20, 19, 18, 17, 16, 15, 14, 13, 12, 11, 10, 9, 8, 7, 6, 5, 4, 3, 2, 1, 0] [24, 7, 6, 5, 4, 3, 2, 1, 0] [] [26, 25, 24, 23, 22, 21, 20, 19, 15, 14, 28, 9, 8, 27] ∗ R) ⊢ Q r) :
    iprop(St X K c [26, 25, 23, 15, 22, 14, 21, 13, 20, 12, 19, 11, 18, 10, 17, 9, 16, 8, 24, 7, 6, 5, 4, 3, 2, 1, 0] [26, 25, 24, 23, 22, 21, 20, 19, 15, 14, 13, 12, 11, 10, 9, 8, 18, 17, 16, 7, 6, 5, 4, 3, 2, 1, 0] [18, 17, 16, 15, 14, 13, 12, 11, 10, 9, 8, 7, 6, 5, 4, 3, 2, 1, 0] [24, 7, 6, 5, 4, 3, 2, 1, 0] [] [26, 25, 24, 23, 22, 21, 20, 19, 15, 14, 28, 9, 8, 27] ∗ R) ⊢ WP c (k0_part34 (F := F) xM whole_x piM whole_pi oM whole_o sM whole_s bM whole_b cc0_scratch2 cc0_scratch3 cc0_scratch4 cc0_scratch5
      cc0_scoped0 c) Q := by
  rw [k0_part34_eq_skeleton]; unfold k0_part34_skel
  simp only [Prog.lift, Prog.bind_op, Prog.bind_ret, Prog.pure_eq_ret]
  refine step_of (wait_snd (i := 19) (by decide) (by decide) rfl rfl) ?_
  refine step_of (wait_snd (i := 20) (by decide) (by decide) rfl rfl) ?_
  refine step_of (wait_snd (i := 21) (by decide) (by decide) rfl rfl) ?_
  refine step_of (wait_snd (i := 22) (by decide) (by decide) rfl rfl) ?_
  exact ret_of (hQ _)

end Parts

end Cert.KernelIdeal.Swap

end
-- ==== Proof.MeetI.lean ====
/-
  The two ends of the exchange: the barrier at which each device hands its neighbours the rows of its result they fill, which
  sets the exchange's state up; and, when every transfer is done, what the state comes to and the closing handshake.
-/
module

public import proofs.«01_k».proof.Proof.BodyI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Fin 56 → ℕ) (c : Dev nD)

/-! ## What the two handshakes use -/

/-- The standing facts about the neighbour along axis `d`: its barrier and exit cells are at their round. -/
def gate (d : Fin 3) : sProp 𝕄 :=
  iprop(cellInv ER (rd X) (K (peer d c, 0)) (barCell (peer d c)) ∗ cellInv ER (rd X) (K (peer d c, 1)) (exitCell (peer d c))
    ∗ reached ER (barCell (peer d c)) 0 ∗ reached ER (exitCell (peer d c)) 0)
instance gate_persistent (d) : BI.Persistent (gate X K c d) := by unfold gate; infer_instance

def gates : sProp 𝕄 :=
  iprop(cellInv ER (rd X) (K (c, 0)) (barCell c) ∗ cellInv ER (rd X) (K (c, 1)) (exitCell c) ∗ gate X K c 0 ∗ gate X K c 1 ∗ gate X K c 2)
instance gates_persistent : BI.Persistent (gates X K c) := by unfold gates; infer_instance

/-- What a handshake spends: the right to pay each neighbour's cell, the three units to be received, the position at the own
    cell. -/
def barRes : sProp 𝕄 :=
  iprop((dutyTok ER (barCell (peer 0 c)) 0 0 ∗ dutyTok ER (barCell (peer 1 c)) 0 1 ∗ dutyTok ER (barCell (peer 2 c)) 0 2)
    ∗ cred (tallyAt (barCell c) () 3) ∗ atPos ER (barCell c) 0 ∅ 0)
def exitRes : sProp 𝕄 :=
  iprop((dutyTok ER (exitCell (peer 0 c)) 0 0 ∗ dutyTok ER (exitCell (peer 1 c)) 0 1 ∗ dutyTok ER (exitCell (peer 2 c)) 0 2)
    ∗ cred (tallyAt (exitCell c) () 3) ∗ atPos ER (exitCell c) 0 ∅ 0)

/-- The right to pay the two cells of transfer `i`. -/
def sendToks (i : Fin 27) : sProp 𝕄 := iprop(dutyTok ER (sndCell c i) 0 0 ∗ dutyTok ER (rcvCell (tgt i c) i) 0 0)

/-- A buffer of device `c` at some contents. -/
abbrev someBuf (b : Ref sig .tc) : sProp 𝕄 :=
  iprop(∃ f : Buf (Elt F) ((c : Thread nD τ).loc b), ((c : Thread nD τ).loc b ↦{fullShare} f : sProp 𝕄))

/-- The state before the barrier. -/
def Before : sProp 𝕄 :=
  iprop(allRecs X K c ∗ levAts L lv ∗ (xLoc c ↦{fullShare} (X c : Buf (Elt F) (xLoc c)) : sProp 𝕄)
    ∗ bigSep Finset.univ (fun i => sendToks (F := F) c i)
    ∗ bigSep Finset.univ (fun i => atPos ER (sndCell c i) 0 ∅ 0)
    ∗ bigSep Finset.univ (fun i => iprop(cred (tallyAt (rcvCell c i) () (N i)) ∗ atPos ER (rcvCell c i) 0 ∅ 0))
    ∗ (∃ W, owes (c : Thread nD τ) (O₀ c) W)
    ∗ someBuf (F := F) c cc0_scratch0 ∗ someBuf (F := F) c cc0_scratch1 ∗ someBuf (F := F) c cc0_stg2_0 ∗ barRes (F := F) c)

/-! ## Splitting the buffers -/

theorem swap_le (P Q : sProp 𝕄) : iprop(P ∗ Q) ⊢ iprop(Q ∗ P) := by iintro ⟨H, H'⟩; isplitl [H'] <;> iassumption
theorem swap_eq (P Q : sProp 𝕄) : iprop(P ∗ Q) = iprop(Q ∗ P) := Entails.antisymm (swap_le P Q) (swap_le Q P)
theorem group_le (P Q R : sProp 𝕄) : iprop(P ∗ Q ∗ R) ⊢ iprop((P ∗ Q) ∗ R) := by
  iintro ⟨H, H', H''⟩
  isplitr [H'']
  · isplitl [H] <;> iassumption
  · iexact H''
theorem ungroup_le (P Q R : sProp 𝕄) : iprop((P ∗ Q) ∗ R) ⊢ iprop(P ∗ Q ∗ R) := by
  iintro ⟨⟨H, H'⟩, H''⟩
  isplitl [H]; · iexact H
  isplitl [H'] <;> iassumption
theorem group_eq (P Q R : sProp 𝕄) : iprop(P ∗ Q ∗ R) = iprop((P ∗ Q) ∗ R) := Entails.antisymm (group_le P Q R) (ungroup_le P Q R)

theorem some_out (A : Finset S1x2048x1024.Idx) (f : Buf (Elt F) (oLoc c)) : (oLoc c ↦[A]{fullShare} f : sProp 𝕄) ⊢ someOut c A := by
  unfold someOut; iintro H; iexists f; iexact H
theorem some_chunk (r : ℕ) (f : Buf (Elt F) (sLoc c)) : (sLoc c ↦[chunk r]{fullShare} f : sProp 𝕄) ⊢ someChunk c r := by
  unfold someChunk; iintro H; iexists f; iexact H

/-- The transfers in order of their axis. -/
theorem by_axis (Φ : Fin 27 → sProp 𝕄) : bigSep Finset.univ Φ = iprop(bigSep (Finset.univ.filter fun i => dir i = 0) Φ
    ∗ bigSep (Finset.univ.filter fun i => dir i = 1) Φ ∗ bigSep (Finset.univ.filter fun i => dir i = 2) Φ) := by
  rw [show (Finset.univ : Finset (Fin 27)) = (Finset.univ.filter fun i => dir i = 0) ∪ ((Finset.univ.filter fun i => dir i = 1) ∪ (Finset.univ.filter fun i => dir i = 2)) by decide,
    bigSep_union (by decide), bigSep_union (by decide)]
  congr 1

/-- The rows a neighbour's transfers fill here. -/
theorem barPay_peer (d : Fin 3) : barPay (F := F) (peer d c) d = bigSep (Finset.univ.filter fun i => dir i = d) fun i => someOut c (pset c (pc27 i)) := by
  unfold barPay grant
  refine bigSep_congr fun i hi => ?_
  have e : tgt i (peer d c) = c := by
    show peer (dir i) (peer d c) = c
    rw [(Finset.mem_filter.mp hi).2, peer_peer]
  rw [e]

/-- Two transfers fill different rows. -/
theorem pset_apart (i j : Fin 27) (h : i ≠ j) : Disjoint (pset c (pc27 i)) (pset c (pc27 j)) := by
  rw [Finset.disjoint_left]
  intro x hx hy
  have h1 := (inP_iff_own c ⟨_, band_lt x⟩ i).mp (Finset.mem_filter.mp hx).2
  have h2 := (inP_iff_own c ⟨_, band_lt x⟩ j).mp (Finset.mem_filter.mp hy).2
  exact h (Fin.ext (h1.symm.trans h2))

theorem split_out : someBuf (F := F) c cc0_stg2_0
    ⊢ iprop(barPay (F := F) (peer 0 c) 0 ∗ barPay (F := F) (peer 1 c) 1 ∗ barPay (F := F) (peer 2 c) 2) := by
  rw [barPay_peer, barPay_peer, barPay_peer, ← by_axis]
  iintro ⟨%f, H⟩
  have e : (Finset.univ : Finset (Fin 27)).biUnion (fun i => pset c (pc27 i)) = Finset.univ := by
    ext x
    simp only [Finset.mem_biUnion, Finset.mem_univ, true_and, iff_true]
    exact ⟨⟨own c ((x 1).val / 16), own_lt c ⟨_, band_lt x⟩⟩,
      Finset.mem_filter.mpr ⟨Finset.mem_univ _, (inP_iff_own c ⟨_, band_lt x⟩ ⟨_, own_lt c ⟨_, band_lt x⟩⟩).mpr rfl⟩⟩
  have h := pointsTo_biUnion (Ix := Unit) (Name := ℕ) (U := UU) (Lvl := ℕ) (q := fullShare) (f := f) (ℓ := oLoc c) (Finset.univ : Finset (Fin 27))
    (fun i => pset c (pc27 i)) (fun i _ j _ hij => pset_apart c i j hij)
  rw [e] at h
  ihave H := (Entails.of_eq h) $$ H
  have hm : (bigSep Finset.univ fun i : Fin 27 => (oLoc c ↦[pset c (pc27 i)]{fullShare} f : sProp 𝕄))
      ⊢ bigSep Finset.univ fun i : Fin 27 => someOut (F := F) c (pset c (pc27 i)) :=
    bigSep_mono fun i _ => some_out c _ f
  iapply hm
  iexact H

theorem chunk_apart (i j : Fin 8) (h : i ≠ j) : Disjoint (chunk i.val) (chunk j.val) := by
  rw [Finset.disjoint_left]
  intro x hx hy
  exact h (Fin.ext ((Finset.mem_filter.mp hx).2.symm.trans (Finset.mem_filter.mp hy).2))

theorem chunk_all : (Finset.univ : Finset (Fin 8)).biUnion (fun i => chunk i.val) = Finset.univ := by
  ext x
  simp only [Finset.mem_biUnion, Finset.mem_univ, true_and, iff_true]
  exact ⟨⟨(x 0).val, (x 0).isLt⟩, Finset.mem_filter.mpr ⟨Finset.mem_univ _, rfl⟩⟩

/-- The send buffer is its eight chunks. -/
theorem chunks_eq : someBuf (F := F) c cc0_scratch0 ⊣⊢ bigSep Finset.univ fun r : Fin 8 => someChunk (F := F) c r.val := by
  constructor
  · iintro ⟨%f, H⟩
    have h := pointsTo_biUnion (Ix := Unit) (Name := ℕ) (U := UU) (Lvl := ℕ) (q := fullShare) (f := f) (ℓ := sLoc c) (Finset.univ : Finset (Fin 8))
      (fun i => chunk i.val) (fun i _ j _ hij => chunk_apart i j hij)
    rw [chunk_all] at h
    ihave H := (Entails.of_eq h) $$ H
    have hm : (bigSep Finset.univ fun i : Fin 8 => (sLoc c ↦[chunk i.val]{fullShare} f : sProp 𝕄))
        ⊢ bigSep Finset.univ fun i : Fin 8 => someChunk (F := F) c i.val :=
      bigSep_mono fun i _ => some_chunk c _ f
    iapply hm
    iexact H
  · have : Nonempty (Buf (Elt F) (sLoc c)) := ⟨fun _ => Classical.arbitrary _⟩
    refine (bigSep_exists_pi Finset.univ (fun (r : Fin 8) (f : Buf (Elt F) (sLoc c)) => (sLoc c ↦[chunk r.val]{fullShare} f : sProp 𝕄))).trans ?_
    iintro ⟨%fs, H⟩
    have h := pointsTo_biUnion_join (Ix := Unit) (Name := ℕ) (U := UU) (Lvl := ℕ) (q := fullShare) (ℓ := sLoc c) (Finset.univ : Finset (Fin 8))
      (fun i => chunk i.val) fs (fs 0) (fun i _ j _ hij => chunk_apart i j hij)
    rw [chunk_all] at h
    ihave H := h $$ H
    icases H with ⟨%g, -, H⟩
    iexists g
    iexact H

/-- The sources of the x transfers, as chunks and the direct buffer. -/
theorem raws_eq : bigSep (rawSet []) (fun i => srcPay X c i)
    = iprop((bigSep Finset.univ fun r : Fin 8 => someChunk (F := F) c r.val) ∗ someBd (F := F) c) := by
  rw [show rawSet [] = insert (24 : Fin 27) (Finset.univ.map (Fin.castLEEmb (by decide : 8 ≤ 27))) by decide, bigSep_insert (by decide), bigSep_map]
  have e : ∀ r : Fin 8, srcPay X c (Fin.castLEEmb (by decide : 8 ≤ 27) r) = someChunk (F := F) c r.val := fun r => if_pos r.isLt
  rw [bigSep_congr fun r _ => e r, show srcPay X c 24 = someBd (F := F) c from rfl]
  exact swap_eq _ _

/-! ## The barrier -/

section Enter
variable {X K c}

theorem enter {v2 v5 v8 k0_hw1 v14 v28 v29 k0_h1} {R : sProp 𝕄} {Q}
    (hQ : ∀ r, iprop(St X K c [] [] [] [] [] [] ∗ semVal (barCell c) 0 ∗ R) ⊢ Q r) :
    iprop(Before X K c ∗ gates X K c ∗ R) ⊢ WP c (k0_part1 (F := F) xM whole_x piM whole_pi oM whole_o sM whole_s bM whole_b cc0_scratch2 cc0_scratch3
      cc0_scratch4 cc0_scratch5 cc0_scoped0 c v2 v5 v8 (xw c) k0_hw1 v14 v28 v29 k0_h1) Q := by
  rw [k0_part1_eq_skeleton]; unfold k0_part1_skel
  simp only [semSignalWord, semWaitWord, Prog.lift, Prog.bind_op, Prog.bind_ret, Prog.pure_eq_ret]
  have e0 : (⟨k0_dev1 c (xw c), k0_dev1_lt c (xw c) k0_hw1 k0_h1⟩ : Dev nD) = peer 0 c := Fin.ext (x_words c _ (by simp))
  have e1 : (⟨k0_dev2 c, k0_dev2_lt c⟩ : Dev nD) = peer 1 c := Fin.ext (y_words c _ (by simp))
  have e2 : (⟨k0_dev3 c, k0_dev3_lt c⟩ : Dev nD) = peer 2 c := Fin.ext (z_words c _ (by simp))
  rw [e0, e1, e2]
  unfold Before gates gate barRes
  iintro ⟨⟨#Hr, #Hlev, Hx, H1, H2, H3, ⟨%W, HO⟩, HsB, HbB, HoB, ⟨Ht0, Ht1, Ht2⟩, Hc, Hat⟩, ⟨#HI, -, ⟨#HI0, -, #HR0, -⟩, ⟨#HI1, -, #HR1, -⟩, ⟨#HI2, -, #HR2, -⟩⟩, HR⟩
  ihave Hs := (split_out c) $$ HoB
  icases Hs with ⟨Hp0, Hp1, Hp2⟩
  unfold O₀
  iapply (Rounds.wp_signal 𝒱₀ ER (rd X) (c : Thread nD τ) none (dst := (peer 0 c : Thread nD τ)) (κ := K (peer 0 c, 0)) (d := 0)
      (by rw [duties_bar]; exact Finset.mem_univ _) ((amount_bar X (peer 0 c) 0).trans (by decide)) () _ rfl) $$ [HO Ht0 Hp0]
  · isplitr; · iexact HI0
    isplitl [HO]; · iexact HO
    isplitl [Ht0]; · iexact Ht0
    isplitl [Hp0]; · rw [payload_bar]; iexact Hp0
    iexact HR0
  iintro HO
  iapply (Rounds.wp_signal 𝒱₀ ER (rd X) (c : Thread nD τ) none (dst := (peer 1 c : Thread nD τ)) (κ := K (peer 1 c, 0)) (d := 1)
      (by rw [duties_bar]; exact Finset.mem_univ _) ((amount_bar X (peer 1 c) 1).trans (by decide)) () _ rfl) $$ [HO Ht1 Hp1]
  · isplitr; · iexact HI1
    isplitl [HO]; · iexact HO
    isplitl [Ht1]; · iexact Ht1
    isplitl [Hp1]; · rw [payload_bar]; iexact Hp1
    iexact HR1
  iintro HO
  iapply (Rounds.wp_signal 𝒱₀ ER (rd X) (c : Thread nD τ) none (dst := (peer 2 c : Thread nD τ)) (κ := K (peer 2 c, 0)) (d := 2)
      (by rw [duties_bar]; exact Finset.mem_univ _) ((amount_bar X (peer 2 c) 2).trans (by decide)) () _ rfl) $$ [HO Ht2 Hp2]
  · isplitr; · iexact HI2
    isplitl [HO]; · iexact HO
    isplitl [Ht2]; · iexact Ht2
    isplitl [Hp2]; · rw [payload_bar]; iexact Hp2
    iexact HR2
  iintro HO
  have hmay := mayWait_owed (F := F) c (.reg barS) [] (by rw [role_bar]; decide) (by rw [role_bar]; decide)
  iapply (Rounds.wp_wait_rest_token 𝒱₀ ER (rd X) (c : Thread nD τ) none (κ := K (c, 0))
      (wpE_semWait_eq 𝒱₀ (c : Thread nD τ) none Set.univ) (Set.mem_univ _) () (O := owed c []) (W := W) (R := 0) (m := 0) (T := ∅)
      (by rw [expect_bar]; decide)) $$ [Hc HO Hat]
  · isplitr; · iexact HI
    isplitl [Hc]; · iexact Hc
    isplitl [HO]; · iexact HO
    isplitr; · iapply hmay; iexact Hlev
    iexact Hat
  iintro ⟨HO, Hat, -, Hpay⟩
  ihave Hp := (Entails.of_eq (rest_bar X c)) $$ Hpay
  imod (Rounds.cell_close ER (rd X) (Set.mem_univ (K (c, 0))) (fun h => h) (R := 0 + 1) (duties_later X (barCell c))) $$ [Hat] with Hz
  · isplitr; · iexact HI
    iexact Hat
  iapply (ret_of (hQ _))
  isplitr [Hz HR]
  · unfold St
    have hu : out ([] : List (Fin 27)) = Finset.univ := by decide
    have he : inn ([] : List (Fin 27)) = ∅ := by decide
    have hf : (Finset.univ.filter fun i : Fin 27 => i ∈ ([] : List (Fin 27)) ∧ i ∉ ([] : List (Fin 27))) = ∅ := by decide
    rw [hu, he, hf, bigSep_empty, bigSep_empty, bigSep_empty, raws_eq]
    isplitr; · iexact Hr
    isplitr; · iexact Hlev
    isplitl [Hx]; · iexact Hx
    isplitl [H1 Hp]
    · have es : (bigSep Finset.univ fun i => sendRes (F := F) c i)
          = iprop((bigSep Finset.univ fun i => sendToks (F := F) c i) ∗ bigSep Finset.univ fun i => grant (F := F) c i) := by
        rw [← bigSep_sep']
        refine bigSep_congr fun i _ => ?_
        unfold sendRes sendToks
        exact group_eq _ _ _
      rw [es, by_axis (fun i => grant (F := F) c i)]
      isplitl [H1]; · iexact H1
      unfold barPay
      iexact Hp
    isplitr; · iempintro
    isplitl [H2]; · iexact H2
    isplitr; · iempintro
    isplitl [H3]; · iexact H3
    isplitr; · iempintro
    isplitl [HO]; · iexists _; iexact HO
    isplitl [HsB HbB]
    · isplitl [HsB]
      · iapply (chunks_eq c).1; iexact HsB
      · unfold someBd; iexact HbB
    isplitr
    · simp only [List.foldr_nil]; iempintro
    · simp only [List.foldr_nil]; iempintro
  · isplitl [Hz]; · iexact Hz
    iexact HR
end Enter

/-! ## What the state comes to -/

/-- Everything the exchange leaves behind, but for the exit units owed. -/
def After : sProp 𝕄 :=
  iprop((xLoc c ↦{fullShare} (X c : Buf (Elt F) (xLoc c)) : sProp 𝕄)
    ∗ bigSep Finset.univ (fun i => semVal (sndCell c i) 0)
    ∗ bigSep Finset.univ (fun i => semVal (rcvCell c i) 0)
    ∗ someBuf (F := F) c cc0_scratch0 ∗ someBuf (F := F) c cc0_scratch1
    ∗ (oLoc c ↦{fullShare} (outAt X c : Buf (Elt F) (oLoc c)) : sProp 𝕄))

/-- The pieces held beside the sources when everything has arrived, -/
abbrev heldL : List (Fin 31) := [26, 25, 24, 23, 22, 21, 20, 19, 15, 14, 28, 9, 8, 27]
/-- and those the departures give back. -/
abbrev backL : List (Fin 31) := [0, 1, 2, 3, 4, 5, 6, 7, 29, 30]

/-- Two of the last pieces are apart. -/
theorem last_apart (i j : Fin 31) (hi : i ∈ lastP) (hj : j ∈ lastP) (h : i ≠ j) : Apart c i j := fun b hb =>
  h (Fin.ext (((inP_iff_ownLast c b i hi).mp hb.1).symm.trans ((inP_iff_ownLast c b j hj).mp hb.2)))

theorem list_apart (l : List (Fin 31)) (hl : ∀ i ∈ l, i ∈ lastP) (hd : l.Pairwise (· ≠ ·)) : l.Pairwise (Apart c) :=
  hd.imp_of_mem fun {i j} hi hj h => last_apart c i j (hl i hi) (hl j hj) h

/-- Together they are the whole result. -/
theorem whole_out : iprop(heldL.foldr (fun j P => iprop(piece X fullShare c j ∗ P)) iprop(emp) ∗ backL.foldr (fun j P => iprop(piece X fullShare c j ∗ P)) iprop(emp))
    ⊢ (oLoc c ↦{fullShare} (outAt X c : Buf (Elt F) (oLoc c)) : sProp 𝕄) := by
  rw [pieces_eq heldL (list_apart c heldL (by decide) (by decide)), pieces_eq backL (list_apart c backL (by decide) (by decide))]
  have hd : Disjoint (rowsOf c heldL) (rowsOf c backL) := by
    rw [Finset.disjoint_left]
    intro x hx hy
    obtain ⟨i, hi, hxi⟩ := (mem_rowsOf heldL x).mp hx
    obtain ⟨j, hj, hxj⟩ := (mem_rowsOf backL x).mp hy
    exact last_apart c i j ((by decide : ∀ i ∈ heldL, i ∈ lastP) i hi) ((by decide : ∀ j ∈ backL, j ∈ lastP) j hj)
      ((by decide : ∀ i ∈ heldL, ∀ j ∈ backL, i ≠ j) i hi j hj) ⟨_, band_lt x⟩ ⟨hxi, hxj⟩
  have hu : rowsOf c heldL ∪ rowsOf c backL = Finset.univ := by
    ext x
    rw [Finset.mem_union, mem_rowsOf, mem_rowsOf]
    obtain ⟨j, hj, hb⟩ := ownLast_mem c ⟨_, band_lt x⟩
    have hx := (inP_iff_ownLast c ⟨_, band_lt x⟩ j hj).mpr hb
    refine iff_of_true ?_ (Finset.mem_univ x)
    rcases (by decide : ∀ j ∈ lastP, j ∈ heldL ∨ j ∈ backL) j hj with h | h
    · exact Or.inl ⟨j, h, hx⟩
    · exact Or.inr ⟨j, h, hx⟩
  rw [← hu]
  exact (pointsTo_union hd).2

/-- Eight transfers in a row, from number `k` on. -/
def eight (k : ℕ) (hk : k + 8 ≤ 27) : Fin 8 ↪ Fin 27 := ⟨fun r => ⟨k + r.val, by omega⟩, fun r r' h => Fin.ext (by have := congrArg Fin.val h; simpa using this)⟩

/-- The transfers as eight chunks sent across, eight and eight passed on, and the three others. -/
theorem by_chunk (Φ : Fin 27 → sProp 𝕄) : bigSep Finset.univ Φ
    = iprop(Φ 24 ∗ Φ 25 ∗ Φ 26 ∗ (bigSep Finset.univ fun r : Fin 8 => Φ (eight 0 (by decide) r)) ∗ (bigSep Finset.univ fun r : Fin 8 => Φ (eight 8 (by decide) r))
        ∗ bigSep Finset.univ fun r : Fin 8 => Φ (eight 16 (by decide) r)) := by
  rw [show (Finset.univ : Finset (Fin 27)) = insert 24 (insert 25 (insert 26 (Finset.univ.map (eight 0 (by decide))
      ∪ (Finset.univ.map (eight 8 (by decide)) ∪ Finset.univ.map (eight 16 (by decide)))))) by decide,
    bigSep_insert (by decide), bigSep_insert (by decide), bigSep_insert (by decide), bigSep_union (by decide), bigSep_union (by decide), bigSep_map, bigSep_map, bigSep_map]
  rfl

/-- What the departures of one chunk's transfers give back. -/
theorem chunk_back (r : Fin 8) : iprop(srcPay X c (eight 0 (by decide) r) ∗ srcPay X c (eight 8 (by decide) r) ∗ srcPay X c (eight 16 (by decide) r))
    ⊢ iprop(someChunk (F := F) c r.val ∗ piece X fullShare c (Fin.castLE (by decide) r)) := by
  have e0 : srcPay X c (eight 0 (by decide) r) = someChunk (F := F) c r.val :=
    (if_pos (show 0 + r.val < 8 by omega)).trans (congrArg _ (Nat.zero_add _))
  have hv (k : ℕ) (hk : k + 8 ≤ 27) : (eight k hk r).val = k + r.val := rfl
  have e1 : srcPay X c (eight 8 (by decide) r) = piece X fullShare.left c (Fin.castLE (by decide) r) := by
    have h := hv 8 (by decide)
    unfold srcPay shr srcPc
    rw [if_neg (by omega), if_neg (by omega), if_pos (by omega), if_pos (by omega)]
    congr 1
    exact Fin.ext (by show (eight 8 (by decide) r).val - 8 = r.val; omega)
  have e2 : srcPay X c (eight 16 (by decide) r) = piece X fullShare.right c (Fin.castLE (by decide) r) := by
    have h := hv 16 (by decide)
    unfold srcPay shr srcPc
    rw [if_neg (by omega), if_neg (by omega), if_neg (by omega), if_pos (by omega), if_neg (by omega), if_pos (by omega)]
    congr 1
    exact Fin.ext (by show (eight 16 (by decide) r).val - 16 = r.val; omega)
  rw [e0, e1, e2]
  iintro ⟨H0, H1, H2⟩
  isplitl [H0]; · iexact H0
  iapply (piece_join (X := X) c _)
  isplitl [H1]; · iexact H1
  iexact H2

/-- What the departures give back: the send buffers, and the pieces of the result they were read from. -/
theorem give_back : bigSep Finset.univ (fun i => srcPay X c i)
    ⊢ iprop(someBuf (F := F) c cc0_scratch0 ∗ someBuf (F := F) c cc0_scratch1 ∗ backL.foldr (fun j P => iprop(piece X fullShare c j ∗ P)) iprop(emp)) := by
  have hr : (bigSep Finset.univ fun r : Fin 8 => iprop(srcPay X c (eight 0 (by decide) r) ∗ srcPay X c (eight 8 (by decide) r) ∗ srcPay X c (eight 16 (by decide) r)))
      ⊢ bigSep Finset.univ fun r : Fin 8 => iprop(someChunk (F := F) c r.val ∗ piece X fullShare c (Fin.castLE (by decide) r)) :=
    bigSep_mono fun r _ => chunk_back X c r
  rw [bigSep_sep', bigSep_sep', bigSep_sep', bigSep_univ_eq_bigSepL ([0, 1, 2, 3, 4, 5, 6, 7] : List (Fin 8)) (by decide) (by decide)
    (fun r : Fin 8 => piece X fullShare c (Fin.castLE (by decide) r))] at hr
  rw [by_chunk, show srcPay X c 24 = someBuf (F := F) c cc0_scratch1 from rfl, show srcPay X c 25 = piece X fullShare c 29 from rfl,
    show srcPay X c 26 = piece X fullShare c 30 from rfl]
  simp only [bigSepL_cons_cons, bigSepL_singleton] at hr
  have hr' : iprop(_ ∗ _ ∗ _) ⊢ iprop(_ ∗ piece X fullShare c 0 ∗ piece X fullShare c 1 ∗ piece X fullShare c 2 ∗ piece X fullShare c 3
    ∗ piece X fullShare c 4 ∗ piece X fullShare c 5 ∗ piece X fullShare c 6 ∗ piece X fullShare c 7) := hr
  iintro ⟨Hb, H29, H30, H0, H1, H2⟩
  ihave H := hr' $$ [H0 H1 H2]
  · isplitl [H0]; · iexact H0
    isplitl [H1]; · iexact H1
    iexact H2
  icases H with ⟨Hs, P0, P1, P2, P3, P4, P5, P6, P7⟩
  isplitl [Hs]; · iapply (chunks_eq c).2; iexact Hs
  isplitl [Hb]; · iexact Hb
  simp only [List.foldr_cons, List.foldr_nil]
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [H29]; · iexact H29
  isplitl [H30]; · iexact H30
  iempintro

/-- The state when everything is issued and waited for. -/
theorem st_end {s w v g : List (Fin 27)} (hs : out s = ∅) (hw : out w = ∅) (hv : out v = ∅) (hg : rawSet g = ∅) :
    St X K c s w v g [] heldL ⊢ iprop(∃ W, owes (c : Thread nD τ) (owedExit c) W ∗ After X c) := by
  have inn_all : ∀ l : List (Fin 27), out l = ∅ → inn l = Finset.univ := fun l h => by
    ext j
    have : j ∉ out l := by rw [h]; exact Finset.notMem_empty j
    simpa [out, inn] using this
  have hc : (Finset.univ.filter fun i => i ∈ s ∧ i ∉ v) = ∅ := by
    ext j
    have : j ∉ out v := by rw [hv]; exact Finset.notMem_empty j
    simp only [out, Finset.mem_filter, Finset.mem_univ, true_and, not_not] at this
    simp [this]
  have ho : owed c s = owedExit c := by unfold owed; rw [hs, Finset.sum_empty, zero_add]
  unfold St After
  rw [hs, hw, hv, hg, hc, inn_all v hv, inn_all w hw, ho, bigSep_sep']
  iintro ⟨-, -, Hx, -, -, -, ⟨Hz, Hp⟩, -, Hz', ⟨%W, HO⟩, -, -, Hq⟩
  ihave Hb := (give_back X c) $$ Hp
  icases Hb with ⟨Hs, Hd, Hp⟩
  iexists W
  isplitl [HO]; · iexact HO
  isplitl [Hx]; · iexact Hx
  isplitl [Hz]; · iexact Hz
  isplitl [Hz']; · iexact Hz'
  isplitl [Hs]; · iexact Hs
  isplitl [Hd]; · iexact Hd
  iapply (whole_out X c)
  isplitl [Hq]; · iexact Hq
  iexact Hp

end Cert.KernelIdeal.Swap

end
-- ==== Proof.SwapI.lean ====
/-
  The whole of the kernel's body on a device whose permutation swaps: its parts one after another, from the state before the
  barrier to the result complete and every semaphore back at zero.
-/
module

public import proofs.«01_k».proof.Proof.MeetI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Fin 56 → ℕ} {c : Dev nD}

/-! ## The closing handshake -/

/-- After the signal to the x neighbour's exit: what is left to do of the handshake. -/
def Leaving (X : Dev nD → Blk F) (K : Dev nD × Fin 56 → ℕ) (c : Dev nD) : sProp 𝕄 :=
  iprop(gates X K c ∗ (∃ W, owes (c : Thread nD τ) (tallyAt (exitCell (peer 2 c)) () 1 + tallyAt (exitCell (peer 1 c)) () 1) W)
    ∗ (dutyTok ER (exitCell (peer 1 c)) 0 1 ∗ dutyTok ER (exitCell (peer 2 c)) 0 2)
    ∗ cred (tallyAt (exitCell c) () 3) ∗ atPos ER (exitCell c) 0 ∅ 0)

/-- The signal to the x neighbour's exit. -/
theorem leave_x {n : Dev nD} (hn : n = peer 0 c) {R : sProp 𝕄} {α : Type} {Q : α → sProp 𝕄} {k : PUnit → Prog (TpuEff nD τ sig (Elt F) Λ₀ .tc) α}
    (hk : iprop(After X c ∗ Leaving X K c ∗ R) ⊢ WP c (k ⟨⟩) Q) {s w v g : List (Fin 27)} (hs : out s = ∅) (hw : out w = ∅) (hv : out v = ∅) (hg : rawSet g = ∅) :
    iprop(St X K c s w v g [] heldL ∗ gates X K c ∗ exitRes (F := F) c ∗ R) ⊢ WP c (.op (.semSignal (n : Thread nD τ) exitS (1#32 : BitVec 32).toInt) k) Q := by
  subst hn
  unfold exitRes
  iintro ⟨HS, #HG, ⟨⟨Ht0, Ht1, Ht2⟩, Hc, Hat⟩, HR⟩
  ihave HE := (st_end X K c hs hw hv hg) $$ HS
  icases HE with ⟨%W, HO, HA⟩
  unfold gates gate owedExit
  icases HG with ⟨#HIb, #HI, ⟨#HB0, #HI0, #HRb0, #HR0⟩, #HG1, #HG2⟩
  iapply (Rounds.wp_signal 𝒱₀ ER (rd X) (c : Thread nD τ) none (dst := (peer 0 c : Thread nD τ)) (κ := K (peer 0 c, 1)) (d := 0)
      (by rw [duties_exit]; exact Finset.mem_univ _) ((amount_exit X (peer 0 c) 0).trans (by decide)) () _ rfl) $$ [HO Ht0]
  · isplitr; · iexact HI0
    isplitl [HO]; · iexact HO
    isplitl [Ht0]; · iexact Ht0
    isplitr; · rw [payload_exit]; iempintro
    iexact HR0
  iintro HO
  iapply hk
  isplitl [HA]; · iexact HA
  unfold Leaving gates gate
  isplitr [HR]
  · isplitr
    · isplitr; · iexact HIb
      isplitr; · iexact HI
      isplitr
      · isplitr; · iexact HB0
        isplitr; · iexact HI0
        isplitr; · iexact HRb0
        iexact HR0
      isplitr; · iexact HG1
      iexact HG2
    isplitl [HO]; · iexists W; iexact HO
    isplitl [Ht1 Ht2]
    · isplitl [Ht1]; · iexact Ht1
      iexact Ht2
    isplitl [Hc]; · iexact Hc
    iexact Hat
  · iexact HR

/-- The other two signals, and the wait. -/
theorem leave_yz {n n' : Dev nD} (hn : n = peer 1 c) (hn' : n' = peer 2 c) {R : sProp 𝕄} {α : Type} {Q : α → sProp 𝕄} {k : PUnit → Prog (TpuEff nD τ sig (Elt F) Λ₀ .tc) α}
    (hk : iprop((∃ W, owes (c : Thread nD τ) 0 W) ∗ semVal (exitCell c) 0 ∗ R) ⊢ WP c (k ⟨⟩) Q) :
    iprop(Leaving X K c ∗ R) ⊢ WP c (.op (.semSignal (n : Thread nD τ) exitS (1#32 : BitVec 32).toInt) fun _ =>
      .op (.semSignal (n' : Thread nD τ) exitS (1#32 : BitVec 32).toInt) fun _ => .op (.semWait exitS (3#32 : BitVec 32).toNat) k) Q := by
  subst hn hn'
  unfold Leaving gates gate
  iintro ⟨⟨⟨-, #HI, -, ⟨-, #HI1, -, #HR1⟩, ⟨-, #HI2, -, #HR2⟩⟩, ⟨%W, HO⟩, ⟨Ht1, Ht2⟩, Hc, Hat⟩, HR⟩
  iapply (Rounds.wp_signal 𝒱₀ ER (rd X) (c : Thread nD τ) none (dst := (peer 1 c : Thread nD τ)) (κ := K (peer 1 c, 1)) (d := 1)
      (by rw [duties_exit]; exact Finset.mem_univ _) ((amount_exit X (peer 1 c) 1).trans (by decide)) () _ rfl) $$ [HO Ht1]
  · isplitr; · iexact HI1
    isplitl [HO]; · iexact HO
    isplitl [Ht1]; · iexact Ht1
    isplitr; · rw [payload_exit]; iempintro
    iexact HR1
  iintro HO
  iapply (Rounds.wp_signal 𝒱₀ ER (rd X) (c : Thread nD τ) none (dst := (peer 2 c : Thread nD τ)) (κ := K (peer 2 c, 1)) (d := 2)
      (by rw [duties_exit]; exact Finset.mem_univ _) ((amount_exit X (peer 2 c) 2).trans (by decide)) () 0 (zero_add _).symm) $$ [HO Ht2]
  · isplitr; · iexact HI2
    isplitl [HO]; · iexact HO
    isplitl [Ht2]; · iexact Ht2
    isplitr; · rw [payload_exit]; iempintro
    iexact HR2
  iintro HO
  iapply (Rounds.wp_wait_rest_token 𝒱₀ ER (rd X) (c : Thread nD τ) none (κ := K (c, 1))
      (wpE_semWait_eq 𝒱₀ (c : Thread nD τ) none Set.univ) (Set.mem_univ _) () (O := 0) (W := W) (R := 0) (m := 0) (T := ∅)
      (by rw [expect_exit]; decide)) $$ [Hc HO Hat]
  · isplitr; · iexact HI
    isplitl [Hc]; · iexact Hc
    isplitl [HO]; · iexact HO
    isplitr; · rw [MayWait_zero]; iempintro
    iexact Hat
  iintro ⟨HO, Hat, -, -⟩
  imod (Rounds.cell_close ER (rd X) (Set.mem_univ (K (c, 1))) (fun h => h) (R := 0 + 1) (duties_later X (exitCell c))) $$ [Hat] with Hz
  · isplitr; · iexact HI
    iexact Hat
  iapply hk
  isplitl [HO]; · iexists _; iexact HO
  isplitl [Hz]; · iexact Hz
  iexact HR

theorem part35 {v2 v5 v8 k0_hw1 k0_h1} {R : sProp 𝕄} {Q} (hQ : ∀ r, iprop(After X c ∗ Leaving X K c ∗ R) ⊢ Q r) :
    iprop(St X K c [26, 25, 23, 15, 22, 14, 21, 13, 20, 12, 19, 11, 18, 10, 17, 9, 16, 8, 24, 7, 6, 5, 4, 3, 2, 1, 0]
        [26, 25, 24, 23, 22, 21, 20, 19, 15, 14, 13, 12, 11, 10, 9, 8, 18, 17, 16, 7, 6, 5, 4, 3, 2, 1, 0]
        [22, 21, 20, 19, 18, 17, 16, 15, 14, 13, 12, 11, 10, 9, 8, 7, 6, 5, 4, 3, 2, 1, 0] [24, 7, 6, 5, 4, 3, 2, 1, 0] [] heldL
        ∗ gates X K c ∗ exitRes (F := F) c ∗ R)
      ⊢ WP c (k0_part35 (F := F) xM whole_x piM whole_pi oM whole_o sM whole_s bM whole_b cc0_scratch2 cc0_scratch3 cc0_scratch4 cc0_scratch5 cc0_scoped0
        c v2 v5 v8 (xw c) k0_hw1 k0_h1) Q := by
  rw [k0_part35_eq_skeleton]; unfold k0_part35_skel
  simp only [semSignalWord, Prog.lift, Prog.bind_op, Prog.bind_ret, Prog.pure_eq_ret]
  refine step_of (wait_snd (i := 23) (by decide) (by decide) rfl rfl) ?_
  refine step_of (wait_snd (i := 24) (by decide) (by decide) rfl rfl) ?_
  refine step_of (wait_snd (i := 25) (by decide) (by decide) rfl rfl) ?_
  refine step_of (wait_snd (i := 26) (by decide) (by decide) rfl rfl) ?_
  exact leave_x (Fin.ext (x_words c _ (by simp))) (ret_of (hQ _)) (by decide) (by decide) (by decide) (by decide)

/-! ## The body -/

theorem device_of {A : sProp 𝕄} {Q : Dev nD → sProp 𝕄} (h : A ⊢ Q c) : A ⊢ WP (F := F) c (Prog.lift .deviceId) Q := by
  unfold WP Prog.lift
  rw [wp_deviceId]
  exact ret_of h

theorem assume_of {A : sProp 𝕄} {φ : Prop} {d : Decidable φ} {Q : PLift φ → sProp 𝕄} (hφ : φ) (h : A ⊢ Q ⟨hφ⟩) : A ⊢ WP (F := F) c (Prog.lift (.assume φ d)) Q := by
  unfold WP Prog.lift
  rw [wp_assume_of _ _ _ _ (d := d) hφ]
  exact ret_of h

/-- The word of the permutation at device `c`'s x coordinate. -/
theorem word_of {P : Buf (Elt F) (piLoc c)} {b : BitVec 32} (hP : ∀ j, (j 0).val = c.val / 4 → P j = b) {R : sProp 𝕄} {Q : Elt F .i32 → sProp 𝕄}
    (h : iprop((piLoc c ↦{fullShare} P : sProp 𝕄) ∗ R) ⊢ Q b) :
    iprop((piLoc c ↦{fullShare} P : sProp 𝕄) ∗ R) ⊢ WP (F := F) c (smemLoad piM (Rect.unit (s := S2) (k0_off1 c) S1.size (k0_off1_inb c)) numel1_S1 rfl) Q := by
  simp only [smemLoad, smemLoadElt]
  iintro ⟨HP, HR⟩
  iapply (wp_load_rect 𝒱₀ (c : Thread nD τ) none Set.univ (m := piM) (r := Rect.unit (s := S2) (k0_off1 c) S1.size (k0_off1_inb c)) (Finset.subset_univ _)) $$ HP
  iintro HP
  have e : ∀ j, (piM.access (Rect.unit (s := S2) (k0_off1 c) S1.size (k0_off1_inb c))).read (Elt F) P j = b := fun j => by
    rw [View.read_apply]
    refine hP _ ?_
    have h0 : (j 0).val < 1 := (j 0).isLt
    show k0_off1 c 0 + 1 * (j 0).val = c.val / 4
    have h1 : k0_off1 c 0 = c.val / 4 := by rw [k0_off1_eq]; rfl
    omega
  rw [e]
  iapply (ret_of (A := iprop((piLoc c ↦{fullShare} P : sProp 𝕄) ∗ R)) h)
  isplitl [HP] <;> iassumption

theorem part2 {v14} {A : sProp 𝕄} {Q} (hQ : ∀ r, A ⊢ Q r) :
    A ⊢ WP c (k0_part2 (F := F) xM whole_x piM whole_pi oM whole_o sM whole_s bM whole_b cc0_scratch2 cc0_scratch3 cc0_scratch4 cc0_scratch5 cc0_scoped0 v14) Q := by
  rw [k0_part2_eq_skeleton]; unfold k0_part2_skel
  exact ret_of (hQ _)

/-- The word the body's second conditional reads: on a swapping device, zero. -/
theorem last_word : ∀ c : Dev nD, Scalar.extui (Scalar.xori (Scalar.cmpi .ne (xw c) (Scalar.remsi (Scalar.divsi (Dev.word c) 4#32) 2#32)) 1#1) = 0#32 := by
  decide +kernel

theorem part36 {R : sProp 𝕄} {Q} {P : Buf (Elt F) (piLoc c)} (hP : ∀ j, (j 0).val = c.val / 4 → P j = xw c)
    (hQ : iprop((∃ W, owes (c : Thread nD τ) 0 W) ∗ semVal (exitCell c) 0 ∗ After X c ∗ semVal (barCell c) 0 ∗ (piLoc c ↦{fullShare} P : sProp 𝕄) ∗ R) ⊢ Q ⟨0#32, 0#32⟩) :
    iprop((piLoc c ↦{fullShare} P : sProp 𝕄) ∗ Before X K c ∗ gates X K c ∗ exitRes (F := F) c ∗ R)
      ⊢ WP c (k0_part36 (F := F) xM whole_x piM whole_pi oM whole_o sM whole_s bM whole_b cc0_scratch2 cc0_scratch3 cc0_scratch4 cc0_scratch5 cc0_scoped0) Q := by
  rw [k0_part36_eq_skeleton]; unfold k0_part36_skel
  refine bind_of (device_of ?_)
  dsimp only
  refine bind_of (word_of hP ?_)
  refine bind_of (assume_of (chk_swap c) ?_)
  rw [dif_pos (cond_swap c), last_word]
  have h1 : iprop((piLoc c ↦{fullShare} P : sProp 𝕄) ∗ Before X K c ∗ gates X K c ∗ exitRes (F := F) c ∗ R)
      ⊢ iprop(Before X K c ∗ gates X K c ∗ gates X K c ∗ exitRes (F := F) c ∗ (piLoc c ↦{fullShare} P : sProp 𝕄) ∗ R) := by
    iintro ⟨HP, HB, #HG, HE, HR⟩
    isplitl [HB]; · iexact HB
    isplitr; · iexact HG
    isplitr; · iexact HG
    isplitl [HE]; · iexact HE
    isplitl [HP] <;> iassumption
  refine h1.trans (bind_of ?_)
  refine (enter fun _ => ?_)
  refine bind_of (part2 fun _ => ?_)
  refine bind_of (part3 fun v hv => ?_)
  refine bind_of (part4 hv fun ⟨_, _⟩ => ?_)
  refine bind_of (part5 fun _ => ?_)
  refine bind_of (part6 fun _ => ?_)
  refine bind_of (part7 fun _ => ?_)
  refine bind_of (part8 fun _ => ?_)
  refine bind_of (part9 fun ⟨_, _⟩ => ?_)
  refine bind_of (part10 fun _ => ?_)
  refine bind_of (part11 fun _ => ?_)
  refine bind_of (part12 fun _ => ?_)
  refine bind_of (part13 fun ⟨_, _⟩ => ?_)
  refine bind_of (part14 fun _ => ?_)
  refine bind_of (part15 fun _ => ?_)
  refine bind_of (part16 fun _ => ?_)
  refine bind_of (part17 fun ⟨_, _⟩ => ?_)
  refine bind_of (part18 fun _ => ?_)
  refine bind_of (part19 fun _ => ?_)
  refine bind_of (part20 fun _ => ?_)
  refine bind_of (part21 fun _ => ?_)
  refine bind_of (part22 fun _ => ?_)
  refine bind_of (part23 fun ⟨_, _⟩ => ?_)
  refine bind_of (part24 fun _ => ?_)
  refine bind_of (part25 fun _ => ?_)
  refine bind_of (part26 fun _ => ?_)
  refine bind_of (part27 fun _ => ?_)
  refine bind_of (part28 fun _ => ?_)
  refine bind_of (part29 fun _ => ?_)
  refine bind_of (part30 fun _ => ?_)
  refine bind_of (part31 fun _ => ?_)
  refine bind_of (part32 fun _ => ?_)
  refine bind_of (part33 fun _ => ?_)
  refine bind_of (part34 fun _ => ?_)
  have h2 : ∀ A : sProp 𝕄, iprop(A ∗ semVal (barCell c) 0 ∗ gates X K c ∗ exitRes (F := F) c ∗ (piLoc c ↦{fullShare} P : sProp 𝕄) ∗ R)
      ⊢ iprop(A ∗ gates X K c ∗ exitRes (F := F) c ∗ semVal (barCell c) 0 ∗ (piLoc c ↦{fullShare} P : sProp 𝕄) ∗ R) := fun A => by
    iintro ⟨HA, HZ, HG, HE, HR⟩
    isplitl [HA]; · iexact HA
    isplitl [HG]; · iexact HG
    isplitl [HE]; · iexact HE
    isplitl [HZ] <;> iassumption
  refine (h2 _).trans (bind_of (part35 fun _ => ?_))
  have h3 : ∀ A B C : sProp 𝕄, iprop(A ∗ B ∗ C) ⊢ iprop(B ∗ A ∗ C) := fun A B C => by
    iintro ⟨HA, HB, HC⟩
    isplitl [HB]; · iexact HB
    isplitl [HA] <;> iassumption
  refine (h3 _ _ _).trans ?_
  simp only [semSignalWord, semWaitWord, Prog.lift, Prog.bind_op, Prog.bind_ret, Prog.pure_eq_ret]
  exact leave_yz (Fin.ext (y_words c _ (by simp))) (Fin.ext (z_words c _ (by simp))) (ret_of hQ)

/-- The body on a swapping device. -/
theorem body_swap {R : sProp 𝕄} {Q} {P : Buf (Elt F) (piLoc c)} (hP : ∀ j, (j 0).val = c.val / 4 → P j = xw c)
    (hQ : iprop((∃ W, owes (c : Thread nD τ) 0 W) ∗ semVal (exitCell c) 0 ∗ After X c ∗ semVal (barCell c) 0 ∗ (piLoc c ↦{fullShare} P : sProp 𝕄) ∗ R) ⊢ Q ⟨⟩) :
    iprop((piLoc c ↦{fullShare} P : sProp 𝕄) ∗ Before X K c ∗ gates X K c ∗ exitRes (F := F) c ∗ R)
      ⊢ WP c (cc0_body (F := F) xM whole_x piM whole_pi oM whole_o sM whole_s bM whole_b cc0_scratch2 cc0_scratch3 cc0_scratch4 cc0_scratch5 cc0_scoped0) Q := by
  rw [cc0_body_eq_skeleton]; unfold cc0_body_skel
  refine bind_of (part36 hP ?_)
  dsimp only
  rw [if_neg (by decide)]
  exact ret_of hQ

end Cert.KernelIdeal.Swap

end
-- ==== Proof.RunI.lean ====
/-
  The launch, whatever the body's protocol: the three arrays of a device staged whole, the body run once, the result written
  back. From what the body does on each device, what the whole program does on the mesh.
-/
module

public import proofs.«01_k».proof.Proof.SwapI
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The semaphores scoped to the kernel: all of the exchange's but the barrier's. -/
def osem (k : Fin 55) : SemLoc sig := csem k.succ

theorem ownSemFacts : Pipeline.OwnSemFacts cfg0.spec osem := by decide +kernel

/-- The exchange's cells by what they are for. -/
theorem by_role {M : Type} [URA M] (Φ : Fin 55 → sProp M) : bigSep Finset.univ Φ = iprop(Φ 0 ∗ bigSep Finset.univ (fun i : Fin 27 => Φ ⟨i.val + 1, by omega⟩)
    ∗ bigSep Finset.univ (fun i : Fin 27 => Φ ⟨i.val + 28, by omega⟩)) := by
  let eS : Fin 27 ↪ Fin 55 := ⟨fun i => ⟨i.val + 1, by omega⟩, fun a b h => Fin.ext (by have := congrArg Fin.val h; simpa using this)⟩
  let eR : Fin 27 ↪ Fin 55 := ⟨fun i => ⟨i.val + 28, by omega⟩, fun a b h => Fin.ext (by have := congrArg Fin.val h; simpa using this)⟩
  rw [show (Finset.univ : Finset (Fin 55)) = insert 0 (Finset.univ.map eS ∪ Finset.univ.map eR) by decide +kernel, bigSep_insert (by decide +kernel),
    bigSep_union (by decide +kernel), bigSep_map, bigSep_map]
  rfl

theorem osem_exit : osem 0 = .reg exitS := by decide
theorem osem_snd (i : Fin 27) : osem ⟨i.val + 1, by omega⟩ = .dma (snd i) := (congrArg csem (Fin.ext rfl)).trans (csem_kS i)
theorem osem_rcv (i : Fin 27) : osem ⟨i.val + 28, by omega⟩ = .dma (rcv i) := (congrArg csem (Fin.ext rfl)).trans (csem_kR i)

/-- Every semaphore of the exchange at zero. -/
def allZero (c : Dev nD) : sProp 𝕄 :=
  iprop(semVal (barCell c) 0 ∗ semVal (exitCell c) 0 ∗ bigSep Finset.univ (fun i => semVal (sndCell c i) 0) ∗ bigSep Finset.univ (fun i => semVal (rcvCell c i) 0))

theorem ownSems0_eq (c : Dev nD) : (Pipeline.ownSems0 (Ix := Unit) (Name := ℕ) (U := UU) (Lvl := ℕ) (Val := Elt F) (τ := τ) osem c : sProp 𝕄)
    = iprop(semVal (exitCell c) 0 ∗ bigSep Finset.univ (fun i => semVal (sndCell c i) 0) ∗ bigSep Finset.univ (fun i => semVal (rcvCell c i) 0)) := by
  unfold Pipeline.ownSems0
  rw [by_role, osem_exit]
  simp only [osem_snd, osem_rcv]

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The arrays -/

/-- Device `c`'s arrays at launch: its block, the permutation. -/
def inX (c : Dev nD) : Blk F := m ((c : Thread nD τ).loc main_arg0)
def inPi (c : Dev nD) : S2.Idx → Elt F .i32 := m ((c : Thread nD τ).loc main_arg1)

theorem blk_x (f : Blk F) : (win0_0.blk (0 : Fin 1)).view.read (Elt F) f = f := by
  funext j; rw [View.read_apply]
  refine congrArg f (funext fun a => Fin.ext ?_)
  match a with
  | ⟨0, _⟩ => show 0 + 1 * (j 0).val = (j 0).val; omega
  | ⟨1, _⟩ => show 0 * 2048 + 1 * (j 1).val = (j 1).val; omega
  | ⟨2, _⟩ => show 0 * 1024 + 1 * (j 2).val = (j 2).val; omega
theorem blk_pi (f : S2.Idx → Elt F .i32) : (win0_1.blk (0 : Fin 1)).view.read (Elt F) f = f := by
  funext j; rw [View.read_apply]
  refine congrArg f (funext fun a => Fin.ext ?_)
  match a with
  | ⟨0, _⟩ => show 0 + 1 * (j 0).val = (j 0).val; omega
theorem blk_o (f : Blk F) : (win0_2.blk (0 : Fin 1)).view.read (Elt F) f = f := by
  funext j; rw [View.read_apply]
  refine congrArg f (funext fun a => Fin.ext ?_)
  match a with
  | ⟨0, _⟩ => show 0 + 1 * (j 0).val = (j 0).val; omega
  | ⟨1, _⟩ => show 0 * 2048 + 1 * (j 1).val = (j 1).val; omega
  | ⟨2, _⟩ => show 0 * 1024 + 1 * (j 2).val = (j 2).val; omega

/-! ## The region's data -/

/-- What the body ends with beside the staged arrays. -/
def done (c : Dev nD) : sProp 𝕄 := iprop(allZero (F := F) c ∗ someBuf (F := F) c cc0_scratch0 ∗ someBuf (F := F) c cc0_scratch1)

/-- The region of a body that starts from `S`, owing `O`, and leaves `out` as the result. -/
def dats (out : Dev nD → Blk F) (O : Dev nD → CellTallies nD τ sig Unit) (S : Dev nD → sProp 𝕄) (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inPi m c
    | ⟨2, _⟩ => out c
  Φ t := match t with
    | ⟨0, _⟩ => iprop(S c ∗ someBuf (F := F) c cc0_scratch0 ∗ someBuf (F := F) c cc0_scratch1)
    | ⟨_ + 1, _⟩ => done (F := F) c
  q _ := fullShare
  owed t := match t with
    | ⟨0, _⟩ => O c
    | ⟨_ + 1, _⟩ => 0

/-- A whole buffer owned at contents, as the body's pre- and postcondition write it. -/
theorem owns_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ ((c : Thread nD τ).loc b ↦{fullShare} g)) := by
  unfold owns; simp only [Memref.view_whole, View.read_whole, View.set_whole]

/-- The whole body, as the region calls it. -/
abbrev body : Prog (TpuEff nD τ sig (Elt F) Λ₀ .tc) PUnit :=
  cc0_body (F := F) xM whole_x piM whole_pi oM whole_o sM whole_s bM whole_b cc0_scratch2 cc0_scratch3 cc0_scratch4 cc0_scratch5 cc0_scoped0

/-- What is to be shown of the body on device `c`. -/
def BodyOk (out : Dev nD → Blk F) (O : Dev nD → CellTallies nD τ sig Unit) (S : Dev nD → sProp 𝕄) (c : Dev nD) : Prop :=
  iprop(S c ∗ someBuf (F := F) c cc0_scratch0 ∗ someBuf (F := F) c cc0_scratch1 ∗ (∃ W, owes (c : Thread nD τ) (O c) W)
      ∗ (xLoc c ↦{fullShare} (inX m c : Buf (Elt F) (xLoc c)) : sProp 𝕄) ∗ (piLoc c ↦{fullShare} (inPi m c : Buf (Elt F) (piLoc c)) : sProp 𝕄) ∗ someBuf (F := F) c cc0_stg2_0)
    ⊢ WP c body fun _ => iprop(done (F := F) c ∗ (∃ W, owes (c : Thread nD τ) 0 W)
      ∗ (xLoc c ↦{fullShare} (inX m c : Buf (Elt F) (xLoc c)) : sProp 𝕄) ∗ (piLoc c ↦{fullShare} (inPi m c : Buf (Elt F) (piLoc c)) : sProp 𝕄)
      ∗ (oLoc c ↦{fullShare} (out c : Buf (Elt F) (oLoc c)) : sProp 𝕄))

abbrev at_ (c : Dev nD) (b : Ref sig .tc) (f : b.ty.Contents (Elt F)) : sProp 𝕄 :=
  iprop(∃ g : Buf (Elt F) ((c : Thread nD τ).loc b), ⌜g = f⌝ ∗ ((c : Thread nD τ).loc b ↦{fullShare} g))

theorem t0_eq (t : Fin cfg0.N) : t = (0 : Fin 1) := Subsingleton.elim (α := Fin 1) _ _

section Obligation
variable (out : Dev nD → Blk F) (O : Dev nD → CellTallies nD τ sig Unit)

def bodyPre (S : Dev nD → sProp 𝕄) (c : Dev nD) : sProp 𝕄 :=
  iprop((dats m out O S 0 c).Φ (0 : Fin 2) ∗ (dats m out O S 0 c).owesAt () (0 : Fin 1).castSucc
    ∗ (∃ d, at_ c cc0_stg0_0 ((dats m out O S 0 c).before (0 : Fin 3) (0 : Fin 1) d))
    ∗ (∃ d, at_ c cc0_stg1_0 ((dats m out O S 0 c).before (1 : Fin 3) (0 : Fin 1) d))
    ∗ (∃ d, at_ c cc0_stg2_0 ((dats m out O S 0 c).before (2 : Fin 3) (0 : Fin 1) d)))
def bodyPost (S : Dev nD → sProp 𝕄) (c : Dev nD) : sProp 𝕄 :=
  iprop((dats m out O S 0 c).Φ (1 : Fin 2) ∗ (dats m out O S 0 c).owesAt () (0 : Fin 1).succ
    ∗ at_ c cc0_stg0_0 (inX m c) ∗ at_ c cc0_stg1_0 (inPi m c) ∗ at_ c cc0_stg2_0 (out c))

theorem obligation_of {S : Dev nD → sProp 𝕄} {c : Dev nD} (h : BodyOk m out O S c) : BodyObligation (dats m out O S 0 c) (defs₀ (F := F)) 𝒱₀ () Set.univ := fun t => by
  rw [t0_eq t, bigSep_W0, bigSep_W0]
  simp only [owns_eq]
  show bodyPre m out O S c ⊢ WP c body fun _ => bodyPost m out O S c
  unfold bodyPre
  unfold Dat.owesAt Pipeline.owesWithin
  rw [show (dats m out O S 0 c).owed (0 : Fin 1).castSucc = O c from rfl,
    show (dats m out O S 0 c).Φ (0 : Fin 2) = iprop(S c ∗ someBuf (F := F) c cc0_scratch0 ∗ someBuf (F := F) c cc0_scratch1) from rfl]
  iintro ⟨⟨HS, H0, H1⟩, ⟨%W, %hW, HO⟩, ⟨%d0, %g0, %hg0, Hx⟩, ⟨%d1, %g1, %hg1, Hp⟩, ⟨%d2, %g2, %hg2, Ho⟩⟩
  have hx : g0 = inX m c := by rw [hg0]; unfold Dat.before; rw [if_pos (by decide)]; exact blk_x (inX m c)
  subst hx
  have hp : g1 = inPi m c := by rw [hg1]; unfold Dat.before; rw [if_pos (by decide)]; exact blk_pi (inPi m c)
  subst hp
  have hpost : iprop(done (F := F) c ∗ (∃ W, owes (c : Thread nD τ) 0 W)
      ∗ (xLoc c ↦{fullShare} (inX m c : Buf (Elt F) (xLoc c)) : sProp 𝕄) ∗ (piLoc c ↦{fullShare} (inPi m c : Buf (Elt F) (piLoc c)) : sProp 𝕄)
      ∗ (oLoc c ↦{fullShare} (out c : Buf (Elt F) (oLoc c)) : sProp 𝕄)) ⊢ bodyPost m out O S c := by
    unfold bodyPost Dat.owesAt Pipeline.owesWithin
    rw [show (dats m out O S 0 c).owed (0 : Fin 1).succ = 0 from rfl, show (dats m out O S 0 c).Φ (1 : Fin 2) = done (F := F) c from rfl]
    iintro ⟨HD, ⟨%W', HO⟩, Hx, Hp, Ho⟩
    isplitl [HD]; · iexact HD
    isplitl [HO]
    · iexists W'
      isplitr; · ipureintro; exact fun _ _ => Or.inl trivial
      iexact HO
    isplitl [Hx]
    · iexists _; isplitr; · (ipureintro; rfl)
      iexact Hx
    isplitl [Hp]
    · iexists _; isplitr; · (ipureintro; rfl)
      iexact Hp
    iexists _; isplitr; · (ipureintro; rfl)
    iexact Ho
  unfold BodyOk at h
  iapply (show _ ⊢ WP c body (fun _ => bodyPost m out O S c) from h.trans (wp_mono _ _ _ fun _ => hpost))
  isplitl [HS]; · iexact HS
  isplitl [H0]; · iexact H0
  isplitl [H1]; · iexact H1
  isplitl [HO]; · iexists W; iexact HO
  isplitl [Hx]; · iexact Hx
  isplitl [Hp]; · iexact Hp
  iexists g2; iexact Ho

/-! ## The run -/

theorem share_eq (S : Dev nD → sProp 𝕄) (c : Dev nD) (w : Fin cfg0.W) : (dats m out O S 0 c).share w = fullShare := by unfold Dat.share; split <;> rfl

/-- The result array after the run. -/
theorem result_eq (S : Dev nD → sProp 𝕄) (c : Dev nD) : (dats m out O S 0 c).arrAt (2 : Fin 3) cfg0.N = out c := by
  refine (blk_o _).symm.trans ?_
  rw [show cfg0.N = ((0 : Fin 1) : Fin cfg0.N).val + 1 from rfl, (dats m out O S 0 c).arrAt_succ (2 : Fin 3) (0 : Fin 1),
    show (cfg0.win (2 : Fin 3)).flush (0 : Fin 1) = true from by decide, if_pos rfl]
  exact View.read_write_univ _ _

/-- What a run is to end in: the arguments unchanged, `out` in the result, every semaphore at zero. -/
def Ends (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = out c)
    ∧ r.2.sem = fun _ => 0

set_option maxRecDepth 8000 in
/-- The whole program's run, from the body's and from what starts it. -/
theorem run_of {S G G' : Dev nD → sProp 𝕄} (u : UB) (hbody : ∀ c, BodyOk m out O S c)
    (hwait : ∀ (c : Dev nD) (sm : SemLoc sig), lvl (role sm) = 0 → (levAts L lv : sProp 𝕄) ⊢ MayWait ((c : Dev nD) : Thread nD τ) sm () (O c))
    (hu : BI.own (ER u) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hstart : ∀ c, iprop(levAts L lv ∗ Pipeline.launchCred O c ∗ G' c) ⊢ S c) :
    θ_run defs (onTc (τ := τ) (main (F := F))) (⟨m, fun _ => 0, ρ⟩ : MemSt nD τ sig (Elt F)) (Ends m out) :=
  Pipeline.θ_run_region_owing_glob_pf (fun p => (cfgs p).toPCfg) (fun p => (cfgs p).toPCfg_adm) (dats m out O S) () cellOf_inj (0 : Fin 1)
    winFacts0.to₀ ownSemFacts (Pipeline.PreFacts.none _) EP defs₀ 𝒱₀ m ρ main
    (hmain := fun _ => rfl)
    (hbody := fun c => obligation_of m out O (hbody c)) (hne := fun w => by fin_cases w <;> exact Nat.succ_pos _) (harr := arr_whole0) (hstage := stage_whole0)
    (hshare := share_eq m out O S) (hdistinct := winFacts0.arr_inj)
    (O₀ := O) (howed₀ := fun _ => rfl) (howedN := fun _ => rfl)
    (L := L) (lv := lv) (hL := L_of_ne)
    (hwaits := fun c => Pipeline.cellsWaits_intro cfgs (dats m out O S) () 0 c fun w s t => by
      have hl : lvl (role (.dma ((cfg0.win w).sem s))) = 0 := by fin_cases w <;> fin_cases s <;> decide
      rcases t with ⟨_ | _, ht⟩
      · exact hwait c _ hl
      · exact mayWait_of c _ 0 fun g u hg => absurd hg (Nat.lt_irrefl 0))
    (G := G) (G' := G') (u₀ := (initOf (Pipeline.cells cfgs cellOf_inj) (Pipeline.launchToks cfgs cellOf_inj), u))
    (hu₀ := by
      iintro Hu
      ihave H := (ownU_pair _ _) $$ Hu
      icases H with ⟨HP, HX⟩
      imod hu $$ HX with HG
      imodintro
      isplitl [HP] <;> iassumption)
    (hglob := hglob)
    (hA := fun _ _ => rfl) (hpf := fun _ k => k.elim0)
    (X := S) (Y := fun c => unscopedSems0 c) (Z := fun _ => iprop(emp))
    (hX := fun c => by
      iintro ⟨-, Hl, Hc, -, HG⟩
      imodintro
      isplitl
      · iapply (hstart c)
        isplitl [Hl]; · iexact Hl
        isplitl [Hc] <;> iassumption
      · iempintro)
    (hin := fun c => by
      rw [show (dats m out O S 0 c).Φ 0 = iprop(S c ∗ someBuf (F := F) c cc0_scratch0 ∗ someBuf (F := F) c cc0_scratch1) from rfl, scopedRest0_eq]
      iintro ⟨HS, -, H0, H1⟩
      isplitl [HS]; · iexact HS
      isplitl [H0] <;> iassumption)
    (hout := fun c => by
      rw [show (dats m out O S 0 c).Φ (Fin.last cfg0.N) = done (F := F) c from rfl, scopedRest0_eq, ownSems0_eq, unscopedSems0_eq]
      unfold done allZero
      iintro ⟨⟨Hb, He, Hs, Hr⟩, H0, H1⟩
      isplitl [Hb]; · iexact Hb
      isplitl [He Hs Hr]
      · isplitl [He]; · iexact He
        isplitl [Hs] <;> iassumption
      isplitl [H0] <;> iassumption)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => by
      refine ⟨fun c => ⟨((h c).1 (0 : Fin 3)).trans ?_, ((h c).1 (1 : Fin 3)).trans ?_, ((h c).1 (2 : Fin 3)).trans (result_eq m out O S c)⟩,
        sem_eq_zero hs fun c => (h c).2.2⟩
      · exact (dats m out O S 0 c).arrAt_in (0 : Fin 3) rfl _
      · exact (dats m out O S 0 c).arrAt_in (1 : Fin 3) rfl _)

end Obligation

end Cert.KernelIdeal.Swap

end
-- ==== Proof.LaunchI.lean ====
/-
  The launch of the exchange, for a permutation that swaps the two blocks: the cells' invariants are set up on every device
  at once, each right to pay a cell is handed to the device that pays it, and the run follows.
-/
module

public import proofs.«01_k».proof.Proof.RunI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and rights -/

def kcell (ck : Dev nD × Fin 56) : GSem nD τ sig := ((ck.1 : Thread nD τ), csem ck.2)

theorem csem_inj : ∀ k k' : Fin 56, csem k = csem k' → k = k' := by decide +kernel

theorem kcell_injective : Function.Injective kcell := by
  rintro ⟨c, k⟩ ⟨c', k'⟩ h
  have h1 : c = c' := congrArg (fun g : GSem nD τ sig => g.1.1) h
  have h2 : k = k' := csem_inj k k' (congrArg Prod.snd h)
  rw [h1, h2]
def swapCells : Finset (GSem nD τ sig) := Finset.univ.map ⟨kcell, kcell_injective⟩

/-- The rights to pay a device's cells: its barrier's three, its exit's three, one at each send and receive cell. -/
abbrev TokIx := Fin 3 ⊕ Fin 3 ⊕ Fin 27 ⊕ Fin 27
def tokOf (cj : Dev nD × TokIx) : GSem nD τ sig × ℕ × Fin 3 := match cj.2 with
  | .inl d => (barCell cj.1, 0, d)
  | .inr (.inl d) => (exitCell cj.1, 0, d)
  | .inr (.inr (.inl i)) => (sndCell cj.1 i, 0, 0)
  | .inr (.inr (.inr i)) => (rcvCell cj.1 i, 0, 0)
/-- Which right it is, read off. -/
def tokIx (x : GSem nD τ sig × ℕ × Fin 3) : Option TokIx := match role x.1.2 with
  | .bar => some (.inl x.2.2)
  | .exit => some (.inr (.inl x.2.2))
  | .snd i => some (.inr (.inr (.inl i)))
  | .rcv i => some (.inr (.inr (.inr i)))
  | .other => none
theorem tokIx_tokOf (c : Dev nD) (j : TokIx) : tokIx (tokOf (c, j)) = some j := by
  rcases j with d | d | i | i
  · show (match role (.reg barS) with | .bar => some (Sum.inl d : TokIx) | .exit => some (Sum.inr (Sum.inl d)) | .snd i => some (Sum.inr (Sum.inr (Sum.inl i))) | .rcv i => some (Sum.inr (Sum.inr (Sum.inr i))) | .other => none) = _; rw [role_bar]
  · show (match role (.reg exitS) with | .bar => some (Sum.inl d : TokIx) | .exit => some (Sum.inr (Sum.inl d)) | .snd i => some (Sum.inr (Sum.inr (Sum.inl i))) | .rcv i => some (Sum.inr (Sum.inr (Sum.inr i))) | .other => none) = _; rw [role_exit]
  · show (match role (.dma (snd i)) with | .bar => some (Sum.inl 0 : TokIx) | .exit => some (Sum.inr (Sum.inl 0)) | .snd i => some (Sum.inr (Sum.inr (Sum.inl i))) | .rcv i => some (Sum.inr (Sum.inr (Sum.inr i))) | .other => none) = _; rw [role_snd]
  · show (match role (.dma (rcv i)) with | .bar => some (Sum.inl 0 : TokIx) | .exit => some (Sum.inr (Sum.inl 0)) | .snd i => some (Sum.inr (Sum.inr (Sum.inl i))) | .rcv i => some (Sum.inr (Sum.inr (Sum.inr i))) | .other => none) = _; rw [role_rcv]
theorem tokOf_dev (c : Dev nD) (j : TokIx) : (tokOf (c, j)).1.1.1 = c := by rcases j with d | d | i | i <;> rfl
theorem tokOf_injective : Function.Injective tokOf := by
  rintro ⟨c, j⟩ ⟨c', j'⟩ h
  have h1 : c = c' := by rw [← tokOf_dev c j, h, tokOf_dev]
  have h2 : j = j' := Option.some.inj (by rw [← tokIx_tokOf c j, h, tokIx_tokOf])
  rw [h1, h2]
def swapToks : Finset (GSem nD τ sig × ℕ × Fin 3) := Finset.univ.map ⟨tokOf, tokOf_injective⟩

variable (X : Dev nD → Blk F)

/-- The rights at device `c`'s own cells. -/
def toks (c : Dev nD) : sProp 𝕄 :=
  iprop(bigSep Finset.univ (fun d : Fin 3 => dutyTok ER (barCell c) 0 d) ∗ bigSep Finset.univ (fun d : Fin 3 => dutyTok ER (exitCell c) 0 d)
    ∗ bigSep Finset.univ (fun i : Fin 27 => dutyTok ER (sndCell c i) 0 0) ∗ bigSep Finset.univ (fun i : Fin 27 => dutyTok ER (rcvCell c i) 0 0))
/-- The rights device `c` uses. -/
def payToks (c : Dev nD) : sProp 𝕄 :=
  iprop(bigSep Finset.univ (fun d : Fin 3 => dutyTok ER (barCell (peer d c)) 0 d) ∗ bigSep Finset.univ (fun d : Fin 3 => dutyTok ER (exitCell (peer d c)) 0 d)
    ∗ bigSep Finset.univ (fun i : Fin 27 => dutyTok ER (sndCell c i) 0 0) ∗ bigSep Finset.univ (fun i : Fin 27 => dutyTok ER (rcvCell (tgt i c) i) 0 0))

/-- Each of a family dealt to a neighbour. -/
theorem around {n : ℕ} (e : Fin n → Fin 3) (Φ : Dev nD → Fin n → sProp 𝕄) :
    (bigSep Finset.univ fun c => bigSep Finset.univ fun i => Φ c i) = bigSep Finset.univ fun c => bigSep Finset.univ fun i => Φ (peer (e i) c) i := by
  rw [bigSep_univ_comm, bigSep_univ_comm fun (c : Dev nD) (i : Fin n) => Φ (peer (e i) c) i]
  exact bigSep_congr fun i _ => bigSep_univ_equiv (peerEquiv (e i)) fun c => Φ c i

theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    around (fun d => d) fun c d => (dutyTok ER (barCell c) 0 d : sProp 𝕄), around (fun d => d) fun c d => (dutyTok ER (exitCell c) 0 d : sProp 𝕄),
    around dir fun c i => (dutyTok ER (rcvCell c i) 0 0 : sProp 𝕄)]

/-- What the launch deals device `c`. -/
def G (c : Dev nD) : sProp 𝕄 :=
  iprop((bigSep Finset.univ fun k : Fin 56 => roundState ER (rd X) (kcell (c, k)) 0)
    ∗ (bigSep Finset.univ fun k : Fin 56 => iprop(atPos ER (kcell (c, k)) 0 ∅ 0 ∗ reached ER (kcell (c, k)) 0)) ∗ toks c)

theorem fund_swap : BI.own (ER (initOf swapCells swapToks)) ⊢ (|==> bigSep Finset.univ (G X) : sProp 𝕄) := by
  have hX (Φ : GSem nD τ sig → sProp 𝕄) : bigSep swapCells Φ = bigSep Finset.univ fun c : Dev nD => bigSep Finset.univ fun k : Fin 56 => Φ (kcell (c, k)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]
    exact bigSep_congr fun c _ => by
      unfold toks; rw [bigSep_univ_sum, bigSep_univ_sum, bigSep_univ_sum]; rfl
  iintro HX
  imod (Rounds.fund ER (rd X) swapCells swapToks) $$ HX with ⟨Hst, Hr, Hat, Htok⟩
  imodintro
  ihave Hst' := (Entails.of_eq (hX fun g => roundState ER (rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The cells of a device by what they are for. -/
theorem by_cell (Φ : Fin 56 → sProp 𝕄) : bigSep Finset.univ Φ = iprop(Φ 0 ∗ Φ 1 ∗ bigSep Finset.univ (fun i => Φ (kS i)) ∗ bigSep Finset.univ (fun i => Φ (kR i))) := by
  rw [show (Finset.univ : Finset (Fin 56)) = insert 0 (Finset.univ.map (Fin.succEmb 55)) by decide +kernel, bigSep_insert (by decide +kernel), bigSep_map, by_role]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 56 => semVal (kcell (c, k)) 0 : sProp 𝕄) := by
  rw [ownSems0_eq, unscopedSems0_eq, by_cell]
  unfold kcell
  simp only [csem_kS, csem_kR]
  iintro ⟨⟨HE, HS, HR⟩, HB⟩
  isplitl [HB]; · iexact HB
  isplitl [HE]; · iexact HE
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 56 => semVal (kcell (c, k)) 0) ∗ bigSep Finset.univ fun k : Fin 56 => roundState ER (rd X) (kcell (c, k)) 0)
      ⊢ (|={Set.univ}=> bigSep Finset.univ fun k => iprop(∃ κ : ℕ, cellInv ER (rd X) κ (kcell (c, k))) : sProp 𝕄) from by
        rw [← bigSep_sep']
        exact (bigSep_mono fun k _ => (Rounds.body_intro ER (rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and that every cell is at its round. -/
def records (K : Dev nD × Fin 56 → ℕ) : sProp 𝕄 :=
  iprop((bigSep Finset.univ fun ck : Dev nD × Fin 56 => cellInv ER (rd X) (K ck) (kcell ck))
    ∗ bigSep Finset.univ fun ck : Dev nD × Fin 56 => reached ER (kcell ck) 0)
instance records_persistent (K : Dev nD × Fin 56 → ℕ) : BI.Persistent (records X K) := by unfold records; infer_instance

section Records
variable (K : Dev nD × Fin 56 → ℕ) (c : Dev nD)

/-- The two facts about one cell. -/
theorem record_at (k : Fin 56) (g : GSem nD τ sig) (hg : kcell (c, k) = g) :
    records X K ⊢ iprop(cellInv ER (rd X) (K (c, k)) g ∗ reached ER g 0) := by
  subst hg
  unfold records
  iintro ⟨#HI, #HR⟩
  isplitl
  · iapply (show (bigSep Finset.univ fun ck : Dev nD × Fin 56 => (cellInv ER (rd X) (K ck) (kcell ck) : sProp 𝕄)) ⊢ cellInv ER (rd X) (K (c, k)) (kcell (c, k)) from bigSep_elim (Finset.mem_univ (c, k)))
    iexact HI
  · iapply (show (bigSep Finset.univ fun ck : Dev nD × Fin 56 => (reached ER (kcell ck) 0 : sProp 𝕄)) ⊢ reached ER (kcell (c, k)) 0 from bigSep_elim (Finset.mem_univ (c, k)))
    iexact HR

theorem kcell_bar : kcell (c, 0) = barCell c := rfl
theorem kcell_exit : kcell (c, 1) = exitCell c := rfl
theorem kcell_snd (i : Fin 27) : kcell (c, kS i) = sndCell c i := by unfold kcell; rw [csem_kS]
theorem kcell_rcv (i : Fin 27) : kcell (c, kR i) = rcvCell c i := by unfold kcell; rw [csem_kR]

theorem recs_all (i : Fin 27) : records X K ⊢ recs X K c i := by
  unfold recs
  iintro #H
  ihave HS := (record_at X K c (kS i) _ (kcell_snd c i)) $$ H
  icases HS with ⟨#HS, #HS'⟩
  ihave HR := (record_at X K c (kR i) _ (kcell_rcv c i)) $$ H
  icases HR with ⟨#HR, -⟩
  ihave HT := (record_at X K (tgt i c) (kR i) _ (kcell_rcv (tgt i c) i)) $$ H
  icases HT with ⟨#HT, #HT'⟩
  isplitl; · iexact HS
  isplitl; · iexact HR
  isplitl; · iexact HT
  isplitl; · iexact HS'
  iexact HT'

theorem gate_of (d : Fin 3) : records X K ⊢ gate X K c d := by
  unfold gate
  iintro #H
  ihave HB := (record_at X K (peer d c) 0 _ (kcell_bar _)) $$ H
  icases HB with ⟨#HB, #HB'⟩
  ihave HE := (record_at X K (peer d c) 1 _ (kcell_exit _)) $$ H
  icases HE with ⟨#HE, #HE'⟩
  isplitl; · iexact HB
  isplitl; · iexact HE
  isplitl; · iexact HB'
  iexact HE'

theorem gates_of : records X K ⊢ gates X K c := by
  unfold gates
  iintro #H
  ihave HB := (record_at X K c 0 _ (kcell_bar c)) $$ H
  icases HB with ⟨#HB, -⟩
  ihave HE := (record_at X K c 1 _ (kcell_exit c)) $$ H
  icases HE with ⟨#HE, -⟩
  isplitl; · iexact HB
  isplitl; · iexact HE
  isplitl; · iapply (gate_of X K c 0); iexact H
  isplitl; · iapply (gate_of X K c 1); iexact H
  iapply (gate_of X K c 2); iexact H

theorem allRecs_of : records X K ⊢ allRecs X K c := by
  unfold allRecs
  exact (BI.bigSep_of_persistent Finset.univ (records X K)).trans (bigSep_mono fun i _ => recs_all X K c i)
end Records

/-- The positions at device `c`'s cells. -/
def places (c : Dev nD) : sProp 𝕄 :=
  iprop(atPos ER (barCell c) 0 ∅ 0 ∗ atPos ER (exitCell c) 0 ∅ 0 ∗ bigSep Finset.univ (fun i => atPos ER (sndCell c i) 0 ∅ 0)
    ∗ bigSep Finset.univ (fun i => atPos ER (rcvCell c i) 0 ∅ 0))

theorem places_eq (c : Dev nD) : (bigSep Finset.univ fun k : Fin 56 => (atPos ER (kcell (c, k)) 0 ∅ 0 : sProp 𝕄)) = places c := by
  rw [by_cell]; simp only [kcell_snd, kcell_rcv]; rfl

/-- What the global step makes of it. -/
def G' (c : Dev nD) : sProp 𝕄 := iprop(∃ K, (allRecs X K c ∗ gates X K c) ∗ places c ∗ payToks c)

theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem deal_one (K : Dev nD × Fin 56 → ℕ) (c : Dev nD) : iprop(records X K ∗ places c ∗ payToks c) ⊢ G' X c := by
  unfold G'
  iintro ⟨#H, Hp, Ht⟩
  iexists K
  isplitr
  · isplitl
    · iapply (allRecs_of X K c); iexact H
    · iapply (gates_of X K c); iexact H
  · isplitl [Hp] <;> iassumption

theorem regroup :
    (bigSep Finset.univ fun c : Dev nD => iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Fin 56 => iprop(∃ κ : ℕ, cellInv ER (rd X) κ (kcell ck))),
    bigSep_congr (s := Finset.univ) (fun (c : Dev nD) _ => bigSep_sep' Finset.univ (fun k : Fin 56 => (atPos ER (kcell (c, k)) 0 ∅ 0 : sProp 𝕄)) (fun k => reached ER (kcell (c, k)) 0)),
    bigSep_sep', ← bigSep_univ_prod (fun ck : Dev nD × Fin 56 => (reached ER (kcell ck) 0 : sProp 𝕄)), toks_around,
    bigSep_congr (s := Finset.univ) (fun (c : Dev nD) _ => places_eq c)]
  iintro ⟨HI, ⟨Hat, #HR⟩, Htok⟩
  ihave HK := (BI.bigSep_exists_pi Finset.univ (fun (ck : Dev nD × Fin 56) (κ : ℕ) => (cellInv ER (rd X) κ (kcell ck) : sProp 𝕄))) $$ HI
  icases HK with ⟨%K, #HI⟩
  iapply (deal (R := records X K) fun c => deal_one X K c)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit at launch -/

theorem cell_inj {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩

/-- What all the devices together owe a cell of device `c`, if each owes `n` at its neighbour's. -/
theorem sum_tally (d : Fin 3) (s t : SemLoc sig) (n : ℕ) (c : Dev nD) :
    (∑ c' : Dev nD, (tallyAt (((peer d c' : Dev nD) : Thread nD τ), s) () n : CellTallies nD τ sig Unit) ((c : Thread nD τ), t) ()) = if s = t then n else 0 := by
  rw [Finset.sum_eq_single (peer d c)]
  · rw [tallyAt_apply, peer_peer]
    by_cases h : s = t
    · rw [if_pos ⟨by rw [h], rfl⟩, if_pos h]
    · rw [if_neg (fun h' => h (cell_inj h'.1).2.symm), if_neg h]
  · intro c' _ hc
    rw [tallyAt_apply, if_neg]
    intro h'
    refine hc ?_
    rw [(cell_inj h'.1).1, peer_peer]
  · intro h; exact absurd (Finset.mem_univ _) h

theorem owed_total (c : Dev nD) (t : SemLoc sig) : (∑ c' : Dev nD, O₀ c' ((c : Thread nD τ), t) ())
    = (∑ i ∈ out [], if (.dma (rcv i) : SemLoc sig) = t then N i else 0)
      + ((if (.reg exitS : SemLoc sig) = t then 1 else 0) + (if (.reg exitS : SemLoc sig) = t then 1 else 0) + (if (.reg exitS : SemLoc sig) = t then 1 else 0))
      + (if (.reg barS : SemLoc sig) = t then 1 else 0) + (if (.reg barS : SemLoc sig) = t then 1 else 0) + (if (.reg barS : SemLoc sig) = t then 1 else 0) := by
  unfold O₀ owed owedExit
  simp only [Pi.add_apply, Finsupp.add_apply, Finset.sum_add_distrib, sum_tally, Finset.sum_apply, Finsupp.finset_sum_apply]
  rw [Finset.sum_comm]
  simp only [sum_tally]

theorem launch_at (c : Dev nD) (t : SemLoc sig) (n : ℕ) (h : (∑ c' : Dev nD, O₀ c' ((c : Thread nD τ), t) ()) = n) :
    tallyOn ((c : Thread nD τ), t) (launchCredit (Pipeline.owing O₀) 0 ((c : Thread nD τ), t)) = (tallyAt ((c : Thread nD τ), t) () n : CellTallies nD τ sig Unit) := by
  unfold tallyAt; refine congrArg _ (Finsupp.ext fun u => ?_); cases u
  rw [Pipeline.launchCredit_owing, Finsupp.single_eq_same, h]

theorem rcv_inj : ∀ i j : Fin 27, rcv i = rcv j → i = j := by decide +kernel
def rcvEmb : Fin 27 ↪ SemLoc sig := ⟨fun i => .dma (rcv i), fun i j h => rcv_inj i j (by injection h)⟩

theorem total_bar (c : Dev nD) : (∑ c' : Dev nD, O₀ c' (barCell c) ()) = 3 := by
  rw [owed_total, Finset.sum_eq_zero fun i _ => if_neg (by simp), if_neg (by decide), if_pos rfl]
theorem total_exit (c : Dev nD) : (∑ c' : Dev nD, O₀ c' (exitCell c) ()) = 3 := by
  rw [owed_total, Finset.sum_eq_zero fun i _ => if_neg (by simp), if_pos rfl, if_neg (by decide)]
theorem total_rcv (c : Dev nD) (i : Fin 27) : (∑ c' : Dev nD, O₀ c' (rcvCell c i) ()) = N i := by
  have h : (∑ j ∈ out [], if (.dma (rcv j) : SemLoc sig) = .dma (rcv i) then N j else 0) = N i := by
    have hj : ∀ j ∈ out [], j ≠ i → (if (.dma (rcv j) : SemLoc sig) = .dma (rcv i) then N j else 0) = 0 := fun j _ hj => if_neg fun h => hj (rcvEmb.injective h)
    have hi : i ∉ out [] → (if (.dma (rcv i) : SemLoc sig) = .dma (rcv i) then N i else 0) = 0 := fun h => absurd (Finset.mem_filter.mpr ⟨Finset.mem_univ i, (List.not_mem_nil : i ∉ [])⟩) h
    rw [Finset.sum_eq_single i hj hi, if_pos rfl]
  rw [owed_total, h, if_neg (by simp), if_neg (by simp)]
  simp only [Nat.add_zero]

theorem creds (c : Dev nD) : (Pipeline.launchCred O₀ c : sProp 𝕄)
    ⊢ iprop(cred (tallyAt (barCell c) () 3) ∗ cred (tallyAt (exitCell c) () 3) ∗ bigSep Finset.univ fun i => cred (tallyAt (rcvCell c i) () (N i))) := by
  unfold Pipeline.launchCred
  generalize hΦ : (fun sm : SemLoc sig => (cred (tallyOn ((c : Thread nD τ), sm) (launchCredit (Pipeline.owing O₀) 0 ((c : Thread nD τ), sm))) : sProp 𝕄)) = Φ
  have at_cell (t : SemLoc sig) (n : ℕ) (h : (∑ c' : Dev nD, O₀ c' ((c : Thread nD τ), t) ()) = n) : Φ t = cred (tallyAt ((c : Thread nD τ), t) () n) := by
    rw [← hΦ]; exact congrArg cred (launch_at c t n h)
  have hsub : bigSep Finset.univ Φ ⊢ bigSep ({.reg barS, .reg exitS} ∪ Finset.univ.map rcvEmb) Φ := bigSep_subset (Finset.subset_univ _)
  refine hsub.trans (Entails.of_eq ?_)
  rw [bigSep_union (by decide +kernel), bigSep_map, bigSep_insert (by decide +kernel), bigSep_singleton, at_cell _ 3 (total_bar c), at_cell _ 3 (total_exit c),
    bigSep_congr (s := Finset.univ) (fun (i : Fin 27) _ => show Φ (rcvEmb i) = cred (tallyAt (rcvCell c i) () (N i)) from at_cell _ (N i) (total_rcv c i))]
  exact (group_eq _ _ _).symm

/-! ## The run -/

/-- What device `c`'s body starts from. -/
def start (c : Dev nD) : sProp 𝕄 :=
  iprop(levAts L lv ∗ (cred (tallyAt (barCell c) () 3) ∗ cred (tallyAt (exitCell c) () 3) ∗ bigSep Finset.univ fun i => cred (tallyAt (rcvCell c i) () (N i))) ∗ G' X c)

theorem start_of (c : Dev nD) : iprop(levAts L lv ∗ Pipeline.launchCred O₀ c ∗ G' X c) ⊢ start X c := by
  unfold start
  iintro ⟨Hl, Hc, HG⟩
  ihave Hc := (creds (F := F) c) $$ Hc
  isplitl [Hl]; · iexact Hl
  isplitl [Hc] <;> iassumption

theorem fin3 (Φ : Fin 3 → sProp 𝕄) : bigSep Finset.univ Φ = iprop(Φ 0 ∗ Φ 1 ∗ Φ 2) := bigSep_univ_eq_bigSepL [0, 1, 2] (by decide) (by decide) Φ

/-- From the launch's state and the buffers, the states the exchange is proved from. -/
theorem before_of (c : Dev nD) : iprop(start X c ∗ someBuf (F := F) c cc0_scratch0 ∗ someBuf (F := F) c cc0_scratch1 ∗ (∃ W, owes (c : Thread nD τ) (O₀ c) W)
      ∗ (xLoc c ↦{fullShare} (X c : Buf (Elt F) (xLoc c)) : sProp 𝕄) ∗ someBuf (F := F) c cc0_stg2_0)
    ⊢ iprop(∃ K, Before X K c ∗ gates X K c ∗ exitRes (F := F) c) := by
  unfold start G' places payToks Before barRes exitRes sendToks
  rw [fin3, fin3, bigSep_sep', bigSep_sep']
  iintro ⟨⟨Hl, ⟨Hcb, Hce, Hcr⟩, ⟨%K, ⟨Hrec, Hgat⟩, ⟨Hab, Hae, Has, Har⟩, Htb, Hte, Hts, Htr⟩⟩, H0, H1, HO, Hx, H2⟩
  iexists K
  isplitl [Hl Hcb Hcr Hrec Hab Has Har Htb Hts Htr H0 H1 HO Hx H2]
  · isplitl [Hrec]; · iexact Hrec
    isplitl [Hl]; · iexact Hl
    isplitl [Hx]; · iexact Hx
    isplitl [Hts Htr]
    · isplitl [Hts] <;> iassumption
    isplitl [Has]; · iexact Has
    isplitl [Hcr Har]
    · isplitl [Hcr] <;> iassumption
    isplitl [HO]; · iexact HO
    isplitl [H0]; · iexact H0
    isplitl [H1]; · iexact H1
    isplitl [H2]; · iexact H2
    isplitl [Htb]; · iexact Htb
    isplitl [Hcb] <;> iassumption
  isplitl [Hgat]; · iexact Hgat
  isplitl [Hte]; · iexact Hte
  isplitl [Hce] <;> iassumption

variable (m : (ℓ : Loc nD τ sig) → Buf (Elt F) ℓ) (ρ : Dev nD → PrngReg)

theorem swap_ok (hp : ∀ (c : Dev nD) j, (j 0).val = c.val / 4 → inPi m c j = xw c) (c : Dev nD) : BodyOk m (outAt (inX m)) O₀ (start (inX m)) c := by
  unfold BodyOk
  have hend : iprop((∃ W, owes (c : Thread nD τ) 0 W) ∗ semVal (exitCell c) 0 ∗ After (inX m) c ∗ semVal (barCell c) 0 ∗ (piLoc c ↦{fullShare} (inPi m c : Buf (Elt F) (piLoc c)) : sProp 𝕄) ∗ emp)
      ⊢ iprop(done (F := F) c ∗ (∃ W, owes (c : Thread nD τ) 0 W)
        ∗ (xLoc c ↦{fullShare} (inX m c : Buf (Elt F) (xLoc c)) : sProp 𝕄) ∗ (piLoc c ↦{fullShare} (inPi m c : Buf (Elt F) (piLoc c)) : sProp 𝕄)
        ∗ (oLoc c ↦{fullShare} (outAt (inX m) c : Buf (Elt F) (oLoc c)) : sProp 𝕄)) := by
    unfold After done allZero
    iintro ⟨HO, He, ⟨Hx, Hs, Hr, H0, H1, Ho⟩, Hb, Hp, -⟩
    isplitl [He Hs Hr H0 H1 Hb]
    · isplitl [He Hs Hr Hb]
      · isplitl [Hb]; · iexact Hb
        isplitl [He]; · iexact He
        isplitl [Hs] <;> iassumption
      isplitl [H0] <;> iassumption
    isplitl [HO]; · iexact HO
    isplitl [Hx]; · iexact Hx
    isplitl [Hp] <;> iassumption
  have hrun := fun K : Dev nD × Fin 56 → ℕ => body_swap (X := inX m) (K := K) (c := c) (R := iprop(emp)) (Q := fun _ => iprop(done (F := F) c ∗ (∃ W, owes (c : Thread nD τ) 0 W)
        ∗ (xLoc c ↦{fullShare} (inX m c : Buf (Elt F) (xLoc c)) : sProp 𝕄) ∗ (piLoc c ↦{fullShare} (inPi m c : Buf (Elt F) (piLoc c)) : sProp 𝕄)
        ∗ (oLoc c ↦{fullShare} (outAt (inX m) c : Buf (Elt F) (oLoc c)) : sProp 𝕄))) (P := inPi m c) (hp c) hend
  iintro ⟨HS, H0, H1, HO, Hx, Hp, H2⟩
  ihave HB := (before_of (inX m) c) $$ [HS H0 H1 HO Hx H2]
  · isplitl [HS]; · iexact HS
    isplitl [H0]; · iexact H0
    isplitl [H1]; · iexact H1
    isplitl [HO]; · iexact HO
    isplitl [Hx] <;> iassumption
  icases HB with ⟨%K, HB, Hg, He⟩
  iapply (hrun K)
  isplitl [Hp]; · iexact Hp
  isplitl [HB]; · iexact HB
  isplitl [Hg]; · iexact Hg
  isplitl [He]; · iexact He
  iempintro

/-- From any memory in which every device holds the permutation that swaps the two blocks, the program ends, and each
    device's result is the other half's block. -/
theorem run_swap (hp : ∀ (c : Dev nD) j, (j 0).val = c.val / 4 → inPi m c j = xw c) :
    θ_run defs (onTc (τ := τ) (main (F := F))) (⟨m, fun _ => 0, ρ⟩ : MemSt nD τ sig (Elt F)) (Ends m (outAt (inX m))) :=
  run_of m ρ (outAt (inX m)) O₀ (initOf swapCells swapToks) (swap_ok m hp) mayWait_low (fund_swap (inX m)) (glob (inX m)) (start_of (inX m))

end Cert.KernelIdeal.Swap

end
-- ==== Proof.SameI.lean ====
/-
  The run for the identity permutation: no device communicates, each copies its block to its result.
-/
module

public import proofs.«01_k».proof.Proof.RunI

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD}

/-- The word a device reads that keeps its block: its own x coordinate. -/
def kw (c : Dev nD) : BitVec 32 := BitVec.ofNat 32 (c.val / 4)

theorem chk_same : ∀ c : Dev nD, k0_chk1 c (kw c) := by decide +kernel
theorem cond_same : ∀ c : Dev nD, ¬ k0_cond1 c (kw c) = 1#1 := by decide +kernel
theorem word_same : ∀ c : Dev nD, Scalar.extui (Scalar.xori (Scalar.cmpi .ne (kw c) (Scalar.remsi (Scalar.divsi (Dev.word c) 4#32) 2#32)) 1#1) = 1#32 := by
  decide +kernel

theorem choose_same {R : sProp 𝕄} {Q} {P : Buf (Elt F) (piLoc c)} (hP : ∀ j, (j 0).val = c.val / 4 → P j = kw c)
    (hQ : iprop((piLoc c ↦{fullShare} P : sProp 𝕄) ∗ R) ⊢ Q ⟨1#32, 0#32⟩) :
    iprop((piLoc c ↦{fullShare} P : sProp 𝕄) ∗ R)
      ⊢ WP c (k0_part36 (F := F) xM whole_x piM whole_pi oM whole_o sM whole_s bM whole_b cc0_scratch2 cc0_scratch3 cc0_scratch4 cc0_scratch5 cc0_scoped0) Q := by
  rw [k0_part36_eq_skeleton]; unfold k0_part36_skel
  refine bind_of (device_of ?_)
  dsimp only
  refine bind_of (word_of hP ?_)
  refine bind_of (assume_of (chk_same c) ?_)
  rw [dif_neg (cond_same c), word_same]
  exact ret_of hQ

theorem zero3 : (![0, 0, 0] : Fin 3 → ℕ) = fun _ => 0 := funext fun a => by fin_cases a <;> rfl

/-- The body on a device that keeps its block. -/
theorem body_same {R : sProp 𝕄} {Q} {P : Buf (Elt F) (piLoc c)} {f : Blk F} (hP : ∀ j, (j 0).val = c.val / 4 → P j = kw c)
    (hQ : iprop((piLoc c ↦{fullShare} P : sProp 𝕄) ∗ (xLoc c ↦{fullShare} (f : Buf (Elt F) (xLoc c)) : sProp 𝕄)
      ∗ (oLoc c ↦{fullShare} (f : Buf (Elt F) (oLoc c)) : sProp 𝕄) ∗ R) ⊢ Q ⟨⟩) :
    iprop((piLoc c ↦{fullShare} P : sProp 𝕄) ∗ (xLoc c ↦{fullShare} (f : Buf (Elt F) (xLoc c)) : sProp 𝕄) ∗ someBuf (F := F) c cc0_stg2_0 ∗ R)
      ⊢ WP c body Q := by
  unfold body
  rw [cc0_body_eq_skeleton]; unfold cc0_body_skel
  refine bind_of (choose_same hP ?_)
  dsimp only
  rw [if_pos (by decide)]
  simp only [Prog.lift, Prog.bind_op, Prog.bind_ret, Prog.pure_eq_ret]
  iintro ⟨HP, Hx, ⟨%g, Ho⟩, HR⟩
  iapply (wp_load_rect 𝒱₀ (c : Thread nD τ) none Set.univ (m := xM) (r := Rect.unit (s := S1x2048x1024) ![0, 0, 0] S1x2048x1024.size inb_S1x2048x1024_S1x2048x1024_0_0_0)
    (Finset.subset_univ _)) $$ Hx
  iintro Hx
  iapply (wp_load_rect 𝒱₀ (c : Thread nD τ) none Set.univ (m := oM) (r := Rect.unit (s := S1x2048x1024) ![0, 0, 0] S1x2048x1024.size inb_S1x2048x1024_S1x2048x1024_0_0_0)
    (Finset.subset_univ _)) $$ Ho
  iintro Ho
  iapply (wp_store 𝒱₀ (c : Thread nD τ) none Set.univ (m := oM) (r := Rect.unit (s := S1x2048x1024) ![0, 0, 0] S1x2048x1024.size inb_S1x2048x1024_S1x2048x1024_0_0_0)
    (Mk := Finset.univ) (Finset.subset_univ _)) $$ Ho
  iintro Ho
  have er : (xM.access (Rect.unit (s := S1x2048x1024) ![0, 0, 0] S1x2048x1024.size inb_S1x2048x1024_S1x2048x1024_0_0_0)).read (Elt F) f = f :=
    Memref.readAt_unit_zero (Elt F) cc0_stg0_0 zero3 inb_S1x2048x1024_S1x2048x1024_0_0_0 f
  have ew : k0_pay1 f = f := by unfold k0_pay1; exact shapeCast_self _ _
  have eo : (oM.access (Rect.unit (s := S1x2048x1024) ![0, 0, 0] S1x2048x1024.size inb_S1x2048x1024_S1x2048x1024_0_0_0)).write (Elt F) g f Finset.univ = f :=
    Memref.write_access_unit_zero_univ (Elt F) cc0_stg2_0 zero3 inb_S1x2048x1024_S1x2048x1024_0_0_0 g f
  rw [er, ew, eo]
  rw [wp_ret]
  imodintro
  iapply hQ
  isplitl [HP]; · iexact HP
  isplitl [Hx]; · iexact Hx
  isplitl [Ho] <;> iassumption

variable (m : (ℓ : Loc nD τ sig) → Buf (Elt F) ℓ) (ρ : Dev nD → PrngReg)

/-- What a device starts from: its semaphores at zero. -/
def idle (c : Dev nD) : sProp 𝕄 := allZero c

theorem same_ok (hp : ∀ (c : Dev nD) j, (j 0).val = c.val / 4 → inPi m c j = kw c) (c : Dev nD) : BodyOk m (inX m) (fun _ => 0) idle c := by
  unfold BodyOk
  have hrun := body_same (c := c) (f := inX m c) (R := iprop(idle c ∗ someBuf (F := F) c cc0_scratch0 ∗ someBuf (F := F) c cc0_scratch1 ∗ (∃ W, owes (c : Thread nD τ) 0 W)))
    (Q := fun _ => iprop(done (F := F) c ∗ (∃ W, owes (c : Thread nD τ) 0 W)
        ∗ (xLoc c ↦{fullShare} (inX m c : Buf (Elt F) (xLoc c)) : sProp 𝕄) ∗ (piLoc c ↦{fullShare} (inPi m c : Buf (Elt F) (piLoc c)) : sProp 𝕄)
        ∗ (oLoc c ↦{fullShare} (inX m c : Buf (Elt F) (oLoc c)) : sProp 𝕄))) (P := inPi m c) (hp c) (by
      unfold done idle
      iintro ⟨Hp, Hx, Ho, HS, H0, H1, HO⟩
      isplitl [HS H0 H1]
      · isplitl [HS]; · iexact HS
        isplitl [H0] <;> iassumption
      isplitl [HO]; · iexact HO
      isplitl [Hx]; · iexact Hx
      isplitl [Hp] <;> iassumption)
  iintro ⟨HS, H0, H1, HO, Hx, Hp, H2⟩
  iapply hrun
  isplitl [Hp]; · iexact Hp
  isplitl [Hx]; · iexact Hx
  isplitl [H2]; · iexact H2
  isplitl [HS]; · iexact HS
  isplitl [H0]; · iexact H0
  isplitl [H1] <;> iassumption

/-- From any memory in which every device holds the identity permutation, the program ends, and each device's result is its
    own block. -/
theorem run_same (hp : ∀ (c : Dev nD) j, (j 0).val = c.val / 4 → inPi m c j = kw c) :
    θ_run defs (onTc (τ := τ) (main (F := F))) (⟨m, fun _ => 0, ρ⟩ : MemSt nD τ sig (Elt F)) (Ends m (inX m)) :=
  run_of m ρ (inX m) (fun _ => 0) (S := idle) (G := fun _ => iprop(emp)) (G' := idle) (initOf ∅ ∅) (same_ok m hp)
    (fun c sm h => mayWait_of c sm 0 fun g u hg => absurd hg (Nat.lt_irrefl 0))
    (by
      have h : iprop(emp) ⊢ (bigSep Finset.univ fun _ : Dev nD => iprop(emp) : sProp 𝕄) := bigSep_of_persistent Finset.univ iprop(emp)
      iintro -
      imodintro
      iapply h
      iempintro)
    (by
      have h : ∀ c : Dev nD, iprop(Pipeline.ownSems0 (Ix := Unit) (Name := ℕ) (U := UU) (Lvl := ℕ) (Val := Elt F) (τ := τ) osem c ∗ unscopedSems0 c ∗ emp) ⊢ (idle c : sProp 𝕄) := fun c => by
        unfold idle allZero
        rw [ownSems0_eq, unscopedSems0_eq]
        iintro ⟨⟨HE, HS, HR⟩, HB, -⟩
        isplitl [HB]; · iexact HB
        isplitl [HE]; · iexact HE
        isplitl [HS] <;> iassumption
      have h' : (bigSep Finset.univ fun c : Dev nD => iprop(Pipeline.ownSems0 (Ix := Unit) (Name := ℕ) (U := UU) (Lvl := ℕ) (Val := Elt F) (τ := τ) osem c ∗ unscopedSems0 c ∗ emp) : sProp 𝕄)
          ⊢ bigSep Finset.univ idle := bigSep_mono fun c _ => h c
      iintro H
      ihave H := h' $$ H
      imodintro
      iexact H)
    (fun c => by
      iintro ⟨-, -, H⟩
      iexact H)

end Cert.KernelIdeal.Swap

end
-- ==== Proof.lean ====
/-
  The certificate: every claim of Defs.lean, from the runs of the kernel (Proof/Launch?.lean for the swap, Proof/Same?.lean
  for the identity; ending I over the reals, K over the words), the run of the reference and the values (Proof/Value.lean).
-/
module

public import proofs.«01_k».proof.Defs
public import proofs.«01_k».proof.Proof.Value
public import proofs.«01_k».proof.Proof.LaunchI
public import proofs.«01_k».proof.Proof.SameI
public import proofs.«01_k».proof.Proof.LaunchK
public import proofs.«01_k».proof.Proof.SameK
public import proofs.«01_k».proof.Proof.Gen.ReferenceIdeal.Run
public import proofs.«01_k».proof.Proof.Gen.Pre_is_swap_ReferenceIdeal
public import proofs.«01_k».proof.Proof.Gen.Pre_is_identity_ReferenceIdeal

@[expose] public section

noncomputable section

namespace Cert.Proof

open Idealize.ShloMosaic Idealize.ShloMosaic.TcCoe Idealize.SL.Sem
open Cert.Permuted

/-! ## The permutation's words at a device -/

/-- The swap at a place of the first mesh axis: the other place. -/
theorem swapped_at (c : Fin 8) (j : Cert.ReferenceIdeal.S2.Idx) (h : (j 0).val = c.val / 4) :
    swapped j = BitVec.ofNat 32 (1 - c.val / 4) := by
  have hk : ∀ k : Fin 2, (![1#32, 0#32] : Fin 2 → BitVec 32) k = BitVec.ofNat 32 (1 - k.val) := by decide
  exact (hk (j 0)).trans (congrArg (fun n => BitVec.ofNat 32 (1 - n)) h)

/-- The identity at a place of the first mesh axis: that place. -/
theorem kept_at (c : Fin 8) (j : Cert.ReferenceIdeal.S2.Idx) (h : (j 0).val = c.val / 4) :
    kept j = BitVec.ofNat 32 (c.val / 4) := by
  have hk : ∀ k : Fin 2, (![0#32, 1#32] : Fin 2 → BitVec 32) k = BitVec.ofNat 32 k.val := by decide
  exact (hk (j 0)).trans (congrArg (BitVec.ofNat 32) h)

/-! ## The kernel's runs -/

theorem swap_K (m : (ℓ : Loc Cert.Kernel.nD Cert.Kernel.τ Cert.Kernel.sig) → Buf (Elt Bits) ℓ)
    (g : Dev Cert.Kernel.nD → PrngReg) (h : Cert.Pre_Kernel m) :
    θ_run (Cert.Kernel.defs (F := Bits)) (onTc (τ := Cert.Kernel.τ) (Cert.Kernel.main (F := Bits))) ⟨m, fun _ => 0, g⟩
      (Cert.Kernel.Swap.Ends m (Cert.Kernel.Swap.outAt (Cert.Kernel.Swap.inX m))) :=
  Cert.Kernel.Swap.run_swap m g fun c j hj => (congrFun (of_is_swap _ _ (h c)) j).trans (swapped_at c j hj)

theorem same_K (m : (ℓ : Loc Cert.Kernel.nD Cert.Kernel.τ Cert.Kernel.sig) → Buf (Elt Bits) ℓ)
    (g : Dev Cert.Kernel.nD → PrngReg) (h : Cert.Pre_Kernel_is_identity_Kernel m) :
    θ_run (Cert.Kernel.defs (F := Bits)) (onTc (τ := Cert.Kernel.τ) (Cert.Kernel.main (F := Bits))) ⟨m, fun _ => 0, g⟩
      (Cert.Kernel.Swap.Ends m (Cert.Kernel.Swap.inX m)) :=
  Cert.Kernel.Swap.run_same m g fun c j hj => (congrFun (of_is_identity _ _ (h c)) j).trans (kept_at c j hj)

theorem swap_I (m : (ℓ : Loc Cert.KernelIdeal.nD Cert.KernelIdeal.τ Cert.KernelIdeal.sig) → Buf (Elt Ideal) ℓ)
    (g : Dev Cert.KernelIdeal.nD → PrngReg) (h : Cert.Pre_KernelIdeal m) :
    θ_run (Cert.KernelIdeal.defs (F := Ideal)) (onTc (τ := Cert.KernelIdeal.τ) (Cert.KernelIdeal.main (F := Ideal)))
      ⟨m, fun _ => 0, g⟩ (Cert.KernelIdeal.Swap.Ends m (Cert.KernelIdeal.Swap.outAt (Cert.KernelIdeal.Swap.inX m))) :=
  Cert.KernelIdeal.Swap.run_swap m g fun c j hj => (congrFun (of_is_swap _ _ (h c)) j).trans (swapped_at c j hj)

theorem same_I (m : (ℓ : Loc Cert.KernelIdeal.nD Cert.KernelIdeal.τ Cert.KernelIdeal.sig) → Buf (Elt Ideal) ℓ)
    (g : Dev Cert.KernelIdeal.nD → PrngReg) (h : Cert.Pre_KernelIdeal_is_identity_Kernel m) :
    θ_run (Cert.KernelIdeal.defs (F := Ideal)) (onTc (τ := Cert.KernelIdeal.τ) (Cert.KernelIdeal.main (F := Ideal)))
      ⟨m, fun _ => 0, g⟩ (Cert.KernelIdeal.Swap.Ends m (Cert.KernelIdeal.Swap.inX m)) :=
  Cert.KernelIdeal.Swap.run_same m g fun c j hj => (congrFun (of_is_identity _ _ (h c)) j).trans (kept_at c j hj)

/-! ## The frames: each is a run with the results dropped -/

theorem frame_K : Cert.quiescent_Kernel := fun m g h =>
  (θ_run Cert.Kernel.defs _ _).mono (fun _ hr => ⟨fun c => ⟨(hr.1 c).1, (hr.1 c).2.1⟩, hr.2⟩) (swap_K m g h)

theorem frame_K_same : Cert.quiescent_Kernel_pre_is_identity_Kernel := fun m g h =>
  (θ_run Cert.Kernel.defs _ _).mono (fun _ hr => ⟨fun c => ⟨(hr.1 c).1, (hr.1 c).2.1⟩, hr.2⟩) (same_K m g h)

theorem frame_I : Cert.quiescent_KernelIdeal := fun m g h =>
  (θ_run Cert.KernelIdeal.defs _ _).mono (fun _ hr => ⟨fun c => ⟨(hr.1 c).1, (hr.1 c).2.1⟩, hr.2⟩) (swap_I m g h)

theorem frame_I_same : Cert.quiescent_KernelIdeal_pre_is_identity_Kernel := fun m g h =>
  (θ_run Cert.KernelIdeal.defs _ _).mono (fun _ hr => ⟨fun c => ⟨(hr.1 c).1, (hr.1 c).2.1⟩, hr.2⟩) (same_I m g h)

theorem frame_R : Cert.quiescent_ReferenceIdeal := fun m g _ =>
  (θ_run Cert.ReferenceIdeal.defs _ _).mono (fun _ hr => ⟨fun c => (hr.1 c).2, hr.2⟩) (run_ref m g)

/-! ## The values -/

/-- Under the swap the kernel's blocks are those of the reference's result. -/
theorem value_swap : Cert.algebraic_KernelIdeal_ReferenceIdeal := by
  intro m g m' g' h hagree
  have hp := of_is_swap _ _ (h 0)
  refine ⟨refOut swapped (m' (((0 : Dev Cert.ReferenceIdeal.nD).tc : Thread Cert.ReferenceIdeal.nD
      Cert.ReferenceIdeal.τ).loc Cert.ReferenceIdeal.main_arg0)), ?_, ?_⟩
  · refine (θ_run Cert.KernelIdeal.defs _ _).mono (fun r hr c => ⟨(hr.1 c).2.2.trans ?_, (hr.1 c).1, (hr.1 c).2.1⟩)
      (swap_I m g h)
    funext x
    have hx : (x 1).val < 2048 := (x 1).isLt
    have hs := Cert.KernelIdeal.Swap.srcDev_across c ⟨(x 1).val / 16, by omega⟩
    exact (congrFun (hagree _).1 x).trans (part_swapped c _ hs _ x).symm
  · refine (θ_run Cert.ReferenceIdeal.defs _ _).mono (fun r hr => ⟨(hr.1 0).1.trans ?_, (hr.1 0).2⟩) (run_ref m' g')
    exact congrArg (fun p => refOut p _) ((hagree 0).2.symm.trans hp)

/-- Under the identity the kernel's blocks are those of the reference's result. -/
theorem value_same : Cert.algebraic_KernelIdeal_ReferenceIdeal_pre_is_identity_Kernel := by
  intro m g m' g' h hagree
  have hp := of_is_identity _ _ (h 0)
  refine ⟨m' (((0 : Dev Cert.ReferenceIdeal.nD).tc : Thread Cert.ReferenceIdeal.nD
      Cert.ReferenceIdeal.τ).loc Cert.ReferenceIdeal.main_arg0), ?_, ?_⟩
  · exact (θ_run Cert.KernelIdeal.defs _ _).mono
      (fun r hr c => ⟨(hr.1 c).2.2.trans (hagree c).1, (hr.1 c).1, (hr.1 c).2.1⟩) (same_I m g h)
  · refine (θ_run Cert.ReferenceIdeal.defs _ _).mono (fun r hr => ⟨(hr.1 0).1.trans ?_, (hr.1 0).2⟩) (run_ref m' g')
    exact (congrArg (fun p => refOut p _) ((hagree 0).2.symm.trans hp)).trans (refOut_kept _)

theorem claim : Cert.Claim :=
  ⟨Cert.Kernel.Gen.facts, Cert.KernelIdeal.Gen.facts, Cert.ReferenceIdeal.Gen.facts, Cert.Pre_is_swap_Kernel.Gen.facts,
    Cert.Pre_is_identity_Kernel.Gen.facts, Cert.Pre_is_swap_ReferenceIdeal.Gen.facts,
    Cert.Pre_is_identity_ReferenceIdeal.Gen.facts,
    frame_K, frame_K_same, frame_I, frame_I_same, frame_R, fun m g _ => frame_R m g trivial,
    fun m g _ => frame_R m g trivial, trivial, value_swap, value_same⟩

end Cert.Proof

end
